-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "linv" .f32 0x3BA3D70A#32 ((1 / 200 : ℝ) : EReal)
  ∧ IdealRules.named_const.Statement Cert.KernelIdeal.κ "e1" .f32 0x3E9A209B#32 (((Real.log 2) * (Real.log 10)⁻¹ : ℝ) : EReal)
  ∧ IdealRules.named_const.Statement Cert.KernelIdeal.κ "e2" .f32 0x3E345144#32 (((Real.log (3 / 2)) * (Real.log 10)⁻¹ : ℝ) : EReal)
  ∧ IdealRules.named_const.Statement Cert.KernelIdeal.κ "e3" .f32 0x3DFFDFE1#32 (((Real.log (4 / 3)) * (Real.log 10)⁻¹ : ℝ) : EReal)
  ∧ IdealRules.named_const.Statement Cert.KernelIdeal.κ "e4" .f32 0x3DC678C2#32 (((Real.log (5 / 4)) * (Real.log 10)⁻¹ : ℝ) : EReal)
  ∧ IdealRules.named_const.Statement Cert.KernelIdeal.κ "e5" .f32 0x3DA229C7#32 (((Real.log (6 / 5)) * (Real.log 10)⁻¹ : ℝ) : EReal)
  ∧ IdealRules.named_const.Statement Cert.KernelIdeal.κ "e6" .f32 0x3D891B66#32 (((Real.log (7 / 6)) * (Real.log 10)⁻¹ : ℝ) : EReal)
  ∧ IdealRules.named_const.Statement Cert.KernelIdeal.κ "e7" .f32 0x3D6D88F7#32 (((Real.log (8 / 7)) * (Real.log 10)⁻¹ : ℝ) : EReal)
  ∧ IdealRules.named_const.Statement Cert.KernelIdeal.κ "e8" .f32 0x3D51854F#32 (((Real.log (9 / 8)) * (Real.log 10)⁻¹ : ℝ) : EReal)
  ∧ IdealRules.named_const.Statement Cert.KernelIdeal.κ "e9" .f32 0x3D3B6C35#32 (((Real.log (10 / 9)) * (Real.log 10)⁻¹ : ℝ) : EReal)
  ∧ IdealRules.named_const.Statement Cert.KernelIdeal.κ "dinv" .f32 0x3BA4A9CF#32 ((1 / 199 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x200 : Shape := ⟨2, ![16384, 200]⟩
abbrev S16384 : Shape := ⟨1, ![16384]⟩
abbrev S8x9 : Shape := ⟨2, ![8, 9]⟩
abbrev S8 : Shape := ⟨1, ![8]⟩
abbrev S8x10 : Shape := ⟨2, ![8, 10]⟩
abbrev S8x4 : Shape := ⟨2, ![8, 4]⟩
abbrev S8x6 : Shape := ⟨2, ![8, 6]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel

variable [Facts]

def fn {F : FTy → Type} [FloatOps F] (main_arg0 : FVec F S16384x200 .f32) (main_arg1 : FVec F S16384x200 .f32) (main_arg2 : FVec F S16384x200 .f32) (main_arg3 : FVec F S16384 .f32) (main_arg4 : FVec F S16384 .f32) (main_arg5 : FVec F S16384 .f32) (main_arg6 : FVec F S8x9 .f32) (main_arg7 : FVec F S8 .f32) (main_arg8 : FVec F S8x10 .f32) (main_arg9 : FVec F S8 .f32) (main_arg10 : FVec F S8x4 .f32) (main_arg11 : FVec F S8 .f32) (main_arg12 : FVec F S8x6 .f32) (main_arg13 : FVec F S8 .f32) : IVec S_ 1 :=
  let main_v0 : FVec F S16384x200 .f32 := Host.absf main_arg0
  let main_cst : FVec F S_ .f32 := constant S_ .f32 0x4F000000#32
  let main_v1 : FVec F S16384x200 .f32 := broadcastInDim S16384x200 ![] bcast_S_S16384x200 main_cst
  let main_v2 : IVec S16384x200 1 := cmpf .olt main_v0 main_v1
  let main_c : IVec S_ 1 := constantI S_ 1 1#1
  let main_v3 : IVec S_ 1 := (fun x v => Host.reduce IntOp.andi x v reducesTo_S16384x200_S_d0_1 h_S_) main_v2 main_c
  let main_v4 : FVec F S16384x200 .f32 := Host.absf main_arg1
  let main_cst_0 : FVec F S_ .f32 := constant S_ .f32 0x7F800000#32
  let main_v5 : FVec F S16384x200 .f32 := broadcastInDim S16384x200 ![] bcast_S_S16384x200 main_cst_0
  let main_v6 : IVec S16384x200 1 := cmpf .olt main_v4 main_v5
  let main_c_1 : IVec S_ 1 := constantI S_ 1 1#1
  let main_v7 : IVec S_ 1 := (fun x v => Host.reduce IntOp.andi x v reducesTo_S16384x200_S_d0_1 h_S_) main_v6 main_c_1
  let main_v8 : IVec S_ 1 := andi main_v3 main_v7
  let main_v9 : FVec F S16384x200 .f32 := Host.absf main_arg2
  let main_cst_2 : FVec F S_ .f32 := constant S_ .f32 0x7F800000#32
  let main_v10 : FVec F S16384x200 .f32 := broadcastInDim S16384x200 ![] bcast_S_S16384x200 main_cst_2
  let main_v11 : IVec S16384x200 1 := cmpf .olt main_v9 main_v10
  let main_c_3 : IVec S_ 1 := constantI S_ 1 1#1
  let main_v12 : IVec S_ 1 := (fun x v => Host.reduce IntOp.andi x v reducesTo_S16384x200_S_d0_1 h_S_) main_v11 main_c_3
  let main_v13 : IVec S_ 1 := andi main_v8 main_v12
  main_v13
-- ==== Kernel.lean ====
abbrev S16384x200 : Shape := ⟨2, ![16384, 200]⟩
abbrev S16384 : Shape := ⟨1, ![16384]⟩
abbrev S8x9 : Shape := ⟨2, ![8, 9]⟩
abbrev S8 : Shape := ⟨1, ![8]⟩
abbrev S8x10 : Shape := ⟨2, ![8, 10]⟩
abbrev S8x4 : Shape := ⟨2, ![8, 4]⟩
abbrev S8x6 : Shape := ⟨2, ![8, 6]⟩
abbrev S16384x1 : Shape := ⟨2, ![16384, 1]⟩
abbrev S16384x3 : Shape := ⟨2, ![16384, 3]⟩
abbrev S9x8 : Shape := ⟨2, ![9, 8]⟩
abbrev S_ : Shape := ⟨0, ![]⟩
abbrev S16x8 : Shape := ⟨2, ![16, 8]⟩
abbrev S10x8 : Shape := ⟨2, ![10, 8]⟩
abbrev S4x8 : Shape := ⟨2, ![4, 8]⟩
abbrev S8x8 : Shape := ⟨2, ![8, 8]⟩
abbrev S6x8 : Shape := ⟨2, ![6, 8]⟩
abbrev S32 : Shape := ⟨1, ![32]⟩
abbrev S1x32 : Shape := ⟨2, ![1, 32]⟩
abbrev S16384x32 : Shape := ⟨2, ![16384, 32]⟩
abbrev S64x128 : Shape := ⟨2, ![64, 128]⟩
abbrev S2048x200 : Shape := ⟨2, ![2048, 200]⟩
abbrev S2048x3 : Shape := ⟨2, ![2048, 3]⟩
abbrev S2048x32 : Shape := ⟨2, ![2048, 32]⟩
abbrev S8x128 : Shape := ⟨2, ![8, 128]⟩
abbrev S1x2048x200 : Shape := ⟨3, ![1, 2048, 200]⟩
abbrev S1 : Shape := ⟨1, ![1]⟩
abbrev S1x1x1 : Shape := ⟨3, ![1, 1, 1]⟩
abbrev S2048 : Shape := ⟨1, ![2048]⟩
abbrev S2048x1 : Shape := ⟨2, ![2048, 1]⟩
abbrev S2048x8 : Shape := ⟨2, ![2048, 8]⟩
abbrev S1x8 : Shape := ⟨2, ![1, 8]⟩

abbrev nBuf : Space → Nat
  | .hbm => 45
  | .vmem => 32
  | .smem => 0
  | _ => 0

abbrev bufTy : (tb : Table) → Fin (tcTables nBuf tb) → BufTy
  | .hbm, ⟨0, _⟩ => ⟨S16384x200, .f32⟩
  | .hbm, ⟨1, _⟩ => ⟨S16384x200, .f32⟩
  | .hbm, ⟨2, _⟩ => ⟨S16384x200, .f32⟩
  | .hbm, ⟨3, _⟩ => ⟨S16384, .f32⟩
  | .hbm, ⟨4, _⟩ => ⟨S16384, .f32⟩
  | .hbm, ⟨5, _⟩ => ⟨S16384, .f32⟩
  | .hbm, ⟨6, _⟩ => ⟨S8x9, .f32⟩
  | .hbm, ⟨7, _⟩ => ⟨S8, .f32⟩
  | .hbm, ⟨8, _⟩ => ⟨S8x10, .f32⟩
  | .hbm, ⟨9, _⟩ => ⟨S8, .f32⟩
  | .hbm, ⟨10, _⟩ => ⟨S8x4, .f32⟩
  | .hbm, ⟨11, _⟩ => ⟨S8, .f32⟩
  | .hbm, ⟨12, _⟩ => ⟨S8x6, .f32⟩
  | .hbm, ⟨13, _⟩ => ⟨S8, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x3, .f32⟩
  | .hbm, ⟨18, _⟩ => ⟨S9x8, .f32⟩
  | .hbm, ⟨19, _⟩ => ⟨S_, .i32⟩
  | .hbm, ⟨20, _⟩ => ⟨S_, .f32⟩
  | .hbm, ⟨21, _⟩ => ⟨S16x8, .f32⟩
  | .hbm, ⟨22, _⟩ => ⟨S10x8, .f32⟩
  | .hbm, ⟨23, _⟩ => ⟨S_, .i32⟩
  | .hbm, ⟨24, _⟩ => ⟨S_, .f32⟩
  | .hbm, ⟨25, _⟩ => ⟨S16x8, .f32⟩
  | .hbm, ⟨26, _⟩ => ⟨S4x8, .f32⟩
  | .hbm, ⟨27, _⟩ => ⟨S_, .i32⟩
  | .hbm, ⟨28, _⟩ => ⟨S_, .f32⟩
  | .hbm, ⟨29, _⟩ => ⟨S8x8, .f32⟩
  | .hbm, ⟨30, _⟩ => ⟨S6x8, .f32⟩
  | .hbm, ⟨31, _⟩ => ⟨S_, .i32⟩
  | .hbm, ⟨32, _⟩ => ⟨S_, .f32⟩
  | .hbm, ⟨33, _⟩ => ⟨S8x8, .f32⟩
  | .hbm, ⟨34, _⟩ => ⟨S32, .f32⟩
  | .hbm, ⟨35, _⟩ => ⟨S1x32, .f32⟩
  | .hbm, ⟨36, _⟩ => ⟨S16384x32, .f32⟩
  | .hbm, ⟨37, _⟩ => ⟨S64x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .i1⟩
  | .hbm, ⟨42, _⟩ => ⟨S_, .i32⟩
  | .hbm, ⟨43, _⟩ => ⟨S16384x32, .f32⟩
  | .hbm, ⟨44, _⟩ => ⟨S16384x32, .f32⟩
  | .local _ .vmem, ⟨0, _⟩ => ⟨S2048x200, .f32⟩
  | .local _ .vmem, ⟨1, _⟩ => ⟨S2048x200, .f32⟩
  | .local _ .vmem, ⟨2, _⟩ => ⟨S2048x200, .f32⟩
  | .local _ .vmem, ⟨3, _⟩ => ⟨S2048x200, .f32⟩
  | .local _ .vmem, ⟨4, _⟩ => ⟨S2048x200, .f32⟩
  | .local _ .vmem, ⟨5, _⟩ => ⟨S2048x200, .f32⟩
  | .local _ .vmem, ⟨6, _⟩ => ⟨S2048x3, .f32⟩
  | .local _ .vmem, ⟨7, _⟩ => ⟨S2048x3, .f32⟩
  | .local _ .vmem, ⟨8, _⟩ => ⟨S16x8, .f32⟩
  | .local _ .vmem, ⟨9, _⟩ => ⟨S16x8, .f32⟩
  | .local _ .vmem, ⟨10, _⟩ => ⟨S8x8, .f32⟩
  | .local _ .vmem, ⟨11, _⟩ => ⟨S8x8, .f32⟩
  | .local _ .vmem, ⟨12, _⟩ => ⟨S1x32, .f32⟩
  | .local _ .vmem, ⟨13, _⟩ => ⟨S2048x32, .f32⟩
  | .local _ .vmem, ⟨14, _⟩ => ⟨S2048x32, .f32⟩
  | .local _ .vmem, ⟨15, _⟩ => ⟨S8x128, .f32⟩
  | .local _ .vmem, ⟨16, _⟩ => ⟨S8x128, .f32⟩
  | .local _ .vmem, ⟨17, _⟩ => ⟨S2048x200, .f32⟩
  | .local _ .vmem, ⟨18, _⟩ => ⟨S2048x200, .f32⟩
  | .local _ .vmem, ⟨19, _⟩ => ⟨S2048x200, .f32⟩
  | .local _ .vmem, ⟨20, _⟩ => ⟨S2048x200, .f32⟩
  | .local _ .vmem, ⟨21, _⟩ => ⟨S2048x200, .f32⟩
  | .local _ .vmem, ⟨22, _⟩ => ⟨S2048x200, .f32⟩
  | .local _ .vmem, ⟨23, _⟩ => ⟨S2048x3, .f32⟩
  | .local _ .vmem, ⟨24, _⟩ => ⟨S2048x3, .f32⟩
  | .local _ .vmem, ⟨25, _⟩ => ⟨S16x8, .f32⟩
  | .local _ .vmem, ⟨26, _⟩ => ⟨S16x8, .f32⟩
  | .local _ .vmem, ⟨27, _⟩ => ⟨S8x8, .f32⟩
  | .local _ .vmem, ⟨28, _⟩ => ⟨S8x8, .f32⟩
  | .local _ .vmem, ⟨29, _⟩ => ⟨S1x32, .f32⟩
  | .local _ .vmem, ⟨30, _⟩ => ⟨S2048x32, .f32⟩
  | .local _ .vmem, ⟨31, _⟩ => ⟨S2048x32, .f32⟩
  | _, _ => ⟨S16384x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_call1_v0 : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_call2_v0 : Ref sig .tc := ⟨.hbm, 28, rfl⟩
abbrev main_v9 : Ref sig .tc := ⟨.hbm, 29, rfl⟩
abbrev main_v10 : Ref sig .tc := ⟨.hbm, 30, rfl⟩
abbrev main_c_2 : Ref sig .tc := ⟨.hbm, 31, rfl⟩
abbrev main_call3_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14_0 : Ref sig .tc := ⟨.hbm, 36, rfl⟩
abbrev main_v14_1 : Ref sig .tc := ⟨.hbm, 37, rfl⟩
abbrev main_cst : Ref sig .tc := ⟨.hbm, 38, rfl⟩
abbrev main_v15 : Ref sig .tc := ⟨.hbm, 39, rfl⟩
abbrev main_cst_3 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_case0b1_v19 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x200 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x200 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2048x3 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x8 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8x8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2048x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "dinv" => some ((1 / 199 : ℝ) : EReal)
  | "e1" => some (((Real.log 2) * (Real.log 10)⁻¹ : ℝ) : EReal)
  | "e2" => some (((Real.log (3 / 2)) * (Real.log 10)⁻¹ : ℝ) : EReal)
  | "e3" => some (((Real.log (4 / 3)) * (Real.log 10)⁻¹ : ℝ) : EReal)
  | "e4" => some (((Real.log (5 / 4)) * (Real.log 10)⁻¹ : ℝ) : EReal)
  | "e5" => some (((Real.log (6 / 5)) * (Real.log 10)⁻¹ : ℝ) : EReal)
  | "e6" => some (((Real.log (7 / 6)) * (Real.log 10)⁻¹ : ℝ) : EReal)
  | "e7" => some (((Real.log (8 / 7)) * (Real.log 10)⁻¹ : ℝ) : EReal)
  | "e8" => some (((Real.log (9 / 8)) * (Real.log 10)⁻¹ : ℝ) : EReal)
  | "e9" => some (((Real.log (10 / 9)) * (Real.log 10)⁻¹ : ℝ) : EReal)
  | "linv" => some ((1 / 200 : ℝ) : EReal)
  | _ => none
-- ==== ReferenceIdeal.lean ====
abbrev S16384x200 : Shape := ⟨2, ![16384, 200]⟩
abbrev S16384 : Shape := ⟨1, ![16384]⟩
abbrev S8x9 : Shape := ⟨2, ![8, 9]⟩
abbrev S8 : Shape := ⟨1, ![8]⟩
abbrev S8x10 : Shape := ⟨2, ![8, 10]⟩
abbrev S8x4 : Shape := ⟨2, ![8, 4]⟩
abbrev S8x6 : Shape := ⟨2, ![8, 6]⟩
abbrev S_ : Shape := ⟨0, ![]⟩
abbrev S16384x200x1 : Shape := ⟨3, ![16384, 200, 1]⟩
abbrev S1x1x9 : Shape := ⟨3, ![1, 1, 9]⟩
abbrev S16384x200x9 : Shape := ⟨3, ![16384, 200, 9]⟩
abbrev S16384x9 : Shape := ⟨2, ![16384, 9]⟩
abbrev S9 : Shape := ⟨1, ![9]⟩
abbrev S1x9 : Shape := ⟨2, ![1, 9]⟩
abbrev S9x8 : Shape := ⟨2, ![9, 8]⟩
abbrev S16384x8 : Shape := ⟨2, ![16384, 8]⟩
abbrev S1x8 : Shape := ⟨2, ![1, 8]⟩
abbrev S1x1x10 : Shape := ⟨3, ![1, 1, 10]⟩
abbrev S16384x200x10 : Shape := ⟨3, ![16384, 200, 10]⟩
abbrev S16384x10 : Shape := ⟨2, ![16384, 10]⟩
abbrev S10x8 : Shape := ⟨2, ![10, 8]⟩
abbrev S16384x1 : Shape := ⟨2, ![16384, 1]⟩
abbrev S16384x4 : Shape := ⟨2, ![16384, 4]⟩
abbrev S4x8 : Shape := ⟨2, ![4, 8]⟩
abbrev S16384x6 : Shape := ⟨2, ![16384, 6]⟩
abbrev S6x8 : Shape := ⟨2, ![6, 8]⟩
abbrev S16384x32 : Shape := ⟨2, ![16384, 32]⟩

abbrev nBuf : Space → Nat
  | .hbm => 309
  | .vmem => 0
  | .smem => 0
  | _ => 0

abbrev hbmTy0_0 (i : Nat) : BufTy := match i % 128 with
  | 0 => ⟨S16384x200, .f32⟩
  | 1 => ⟨S16384x200, .f32⟩
  | 2 => ⟨S16384x200, .f32⟩
  | 3 => ⟨S16384, .f32⟩
  | 4 => ⟨S16384, .f32⟩
  | 5 => ⟨S16384, .f32⟩
  | 6 => ⟨S8x9, .f32⟩
  | 7 => ⟨S8, .f32⟩
  | 8 => ⟨S8x10, .f32⟩
  | 9 => ⟨S8, .f32⟩
  | 10 => ⟨S8x4, .f32⟩
  | 11 => ⟨S8, .f32⟩
  | 12 => ⟨S8x6, .f32⟩
  | 13 => ⟨S8, .f32⟩
  | 14 => ⟨S16384x200, .f32⟩
  | 15 => ⟨S16384x200, .i32⟩
  | 16 => ⟨S_, .i32⟩
  | 17 => ⟨S16384x200, .i32⟩
  | 18 => ⟨S16384x200, .i1⟩
  | 19 => ⟨S_, .i32⟩
  | 20 => ⟨S_, .i32⟩
  | 21 => ⟨S16384x200, .i32⟩
  | 22 => ⟨S16384x200, .i32⟩
  | 23 => ⟨S16384x200, .f32⟩
  | 24 => ⟨S16384x200, .f32⟩
  | 25 => ⟨S_, .f32⟩
  | 26 => ⟨S_, .f32⟩
  | 27 => ⟨S16384x200, .f32⟩
  | 28 => ⟨S16384x200, .f32⟩
  | 29 => ⟨S16384x200, .f32⟩
  | 30 => ⟨S16384x200, .i32⟩
  | 31 => ⟨S_, .i32⟩
  | 32 => ⟨S_, .i32⟩
  | 33 => ⟨S_, .i1⟩
  | 34 => ⟨S_, .i32⟩
  | 35 => ⟨S16384x200, .i32⟩
  | 36 => ⟨S16384x200, .i1⟩
  | 37 => ⟨S16384x200, .i1⟩
  | 38 => ⟨S16384x200, .i1⟩
  | 39 => ⟨S_, .i32⟩
  | 40 => ⟨S_, .i32⟩
  | 41 => ⟨S16384x200, .i32⟩
  | 42 => ⟨S16384x200, .i32⟩
  | 43 => ⟨S16384x200, .i32⟩
  | 44 => ⟨S_, .i32⟩
  | 45 => ⟨S16384x200, .i32⟩
  | 46 => ⟨S16384x200, .i32⟩
  | 47 => ⟨S_, .i32⟩
  | 48 => ⟨S16384x200, .i32⟩
  | 49 => ⟨S16384x200, .i32⟩
  | 50 => ⟨S_, .i32⟩
  | 51 => ⟨S16384x200, .i32⟩
  | 52 => ⟨S16384x200, .i1⟩
  | 53 => ⟨S16384x200, .i32⟩
  | 54 => ⟨S_, .i32⟩
  | 55 => ⟨S_, .i32⟩
  | 56 => ⟨S_, .i32⟩
  | 57 => ⟨S_, .i32⟩
  | 58 => ⟨S16384x200, .i32⟩
  | 59 => ⟨S16384x200, .i32⟩
  | 60 => ⟨S_, .i32⟩
  | 61 => ⟨S16384x200, .i32⟩
  | 62 => ⟨S16384x200, .i32⟩
  | 63 => ⟨S16384x200, .i32⟩
  | 64 => ⟨S16384x200, .i32⟩
  | 65 => ⟨S_, .i32⟩
  | 66 => ⟨S16384x200, .i32⟩
  | 67 => ⟨S16384x200, .i1⟩
  | 68 => ⟨S16384x200, .i32⟩
  | 69 => ⟨S_, .i32⟩
  | 70 => ⟨S_, .i32⟩
  | 71 => ⟨S16384x200, .i32⟩
  | 72 => ⟨S16384x200, .i32⟩
  | 73 => ⟨S_, .i32⟩
  | 74 => ⟨S16384x200, .i32⟩
  | 75 => ⟨S16384x200, .i32⟩
  | 76 => ⟨S16384x200, .i32⟩
  | 77 => ⟨S16384x200, .i32⟩
  | 78 => ⟨S_, .i32⟩
  | 79 => ⟨S16384x200, .i32⟩
  | 80 => ⟨S16384x200, .i1⟩
  | 81 => ⟨S16384x200, .i32⟩
  | 82 => ⟨S_, .i32⟩
  | 83 => ⟨S_, .i32⟩
  | 84 => ⟨S16384x200, .i32⟩
  | 85 => ⟨S16384x200, .i32⟩
  | 86 => ⟨S_, .i32⟩
  | 87 => ⟨S16384x200, .i32⟩
  | 88 => ⟨S16384x200, .i32⟩
  | 89 => ⟨S16384x200, .i32⟩
  | 90 => ⟨S16384x200, .i32⟩
  | 91 => ⟨S_, .i32⟩
  | 92 => ⟨S16384x200, .i32⟩
  | 93 => ⟨S16384x200, .i1⟩
  | 94 => ⟨S16384x200, .i32⟩
  | 95 => ⟨S_, .i32⟩
  | 96 => ⟨S_, .i32⟩
  | 97 => ⟨S16384x200, .i32⟩
  | 98 => ⟨S16384x200, .i32⟩
  | 99 => ⟨S_, .i32⟩
  | 100 => ⟨S16384x200, .i32⟩
  | 101 => ⟨S16384x200, .i32⟩
  | 102 => ⟨S16384x200, .i32⟩
  | 103 => ⟨S16384x200, .i32⟩
  | 104 => ⟨S_, .i32⟩
  | 105 => ⟨S16384x200, .i32⟩
  | 106 => ⟨S16384x200, .i1⟩
  | 107 => ⟨S16384x200, .i32⟩
  | 108 => ⟨S_, .i32⟩
  | 109 => ⟨S_, .i32⟩
  | 110 => ⟨S16384x200, .i32⟩
  | 111 => ⟨S16384x200, .i32⟩
  | 112 => ⟨S_, .i32⟩
  | 113 => ⟨S16384x200, .i32⟩
  | 114 => ⟨S16384x200, .i32⟩
  | 115 => ⟨S16384x200, .i32⟩
  | 116 => ⟨S16384x200, .i32⟩
  | 117 => ⟨S_, .i32⟩
  | 118 => ⟨S16384x200, .i32⟩
  | 119 => ⟨S16384x200, .i1⟩
  | 120 => ⟨S16384x200, .i32⟩
  | 121 => ⟨S_, .i32⟩
  | 122 => ⟨S_, .i32⟩
  | 123 => ⟨S16384x200, .i32⟩
  | 124 => ⟨S16384x200, .i32⟩
  | 125 => ⟨S16384x200, .i32⟩
  | 126 => ⟨S16384x200, .i32⟩
  | 127 => ⟨S16384x200, .i32⟩
  | _ => ⟨S16384x200, .f32⟩

abbrev hbmTy0_1 (i : Nat) : BufTy := match i % 128 with
  | 0 => ⟨S16384x200, .i1⟩
  | 1 => ⟨S16384x200, .i32⟩
  | 2 => ⟨S_, .i32⟩
  | 3 => ⟨S16384x200, .i32⟩
  | 4 => ⟨S16384x200, .i1⟩
  | 5 => ⟨S16384x200, .i1⟩
  | 6 => ⟨S_, .i32⟩
  | 7 => ⟨S16384x200, .i32⟩
  | 8 => ⟨S16384x200, .i32⟩
  | 9 => ⟨S16384x200, .i32⟩
  | 10 => ⟨S_, .i32⟩
  | 11 => ⟨S_, .i32⟩
  | 12 => ⟨S_, .i32⟩
  | 13 => ⟨S16384x200, .i32⟩
  | 14 => ⟨S16384x200, .i32⟩
  | 15 => ⟨S_, .i32⟩
  | 16 => ⟨S16384x200, .i32⟩
  | 17 => ⟨S16384x200, .i32⟩
  | 18 => ⟨S_, .i32⟩
  | 19 => ⟨S16384x200, .i32⟩
  | 20 => ⟨S16384x200, .i32⟩
  | 21 => ⟨S16384x200x1, .i32⟩
  | 22 => ⟨S1x1x9, .i32⟩
  | 23 => ⟨S16384x200x9, .i32⟩
  | 24 => ⟨S16384x200x9, .i32⟩
  | 25 => ⟨S16384x200x9, .i1⟩
  | 26 => ⟨S16384x200x9, .f32⟩
  | 27 => ⟨S_, .f32⟩
  | 28 => ⟨S16384x9, .f32⟩
  | 29 => ⟨S_, .f32⟩
  | 30 => ⟨S16384x9, .f32⟩
  | 31 => ⟨S16384x9, .f32⟩
  | 32 => ⟨S9, .f32⟩
  | 33 => ⟨S_, .f32⟩
  | 34 => ⟨S9, .f32⟩
  | 35 => ⟨S9, .f32⟩
  | 36 => ⟨S_, .f32⟩
  | 37 => ⟨S9, .f32⟩
  | 38 => ⟨S9, .f32⟩
  | 39 => ⟨S9, .f32⟩
  | 40 => ⟨S9, .f32⟩
  | 41 => ⟨S_, .f32⟩
  | 42 => ⟨S_, .f32⟩
  | 43 => ⟨S9, .f32⟩
  | 44 => ⟨S9, .f32⟩
  | 45 => ⟨S1x9, .f32⟩
  | 46 => ⟨S16384x9, .f32⟩
  | 47 => ⟨S16384x9, .f32⟩
  | 48 => ⟨S16384x9, .f32⟩
  | 49 => ⟨S9x8, .f32⟩
  | 50 => ⟨S16384x8, .f32⟩
  | 51 => ⟨S1x8, .f32⟩
  | 52 => ⟨S16384x8, .f32⟩
  | 53 => ⟨S16384x8, .f32⟩
  | 54 => ⟨S16384x200, .f32⟩
  | 55 => ⟨S16384x200, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S16384x200, .i32⟩
  | 63 => ⟨S16384x200, .i32⟩
  | 64 => ⟨S_, .i32⟩
  | 65 => ⟨S16384x200, .i32⟩
  | 66 => ⟨S16384x200, .i1⟩
  | 67 => ⟨S_, .i32⟩
  | 68 => ⟨S16384x200, .i32⟩
  | 69 => ⟨S16384x200, .i1⟩
  | 70 => ⟨S_, .i32⟩
  | 71 => ⟨S_, .i1⟩
  | 72 => ⟨S16384x200, .i1⟩
  | 73 => ⟨S16384x200, .i1⟩
  | 74 => ⟨S16384x200, .i1⟩
  | 75 => ⟨S16384x200, .i32⟩
  | 76 => ⟨S16384x200, .i32⟩
  | 77 => ⟨S16384x200, .i32⟩
  | 78 => ⟨S16384x200x1, .i32⟩
  | 79 => ⟨S1x1x10, .i32⟩
  | 80 => ⟨S16384x200x10, .i32⟩
  | 81 => ⟨S16384x200x10, .i32⟩
  | 82 => ⟨S16384x200x10, .i1⟩
  | 83 => ⟨S16384x200x10, .f32⟩
  | 84 => ⟨S_, .f32⟩
  | 85 => ⟨S16384x10, .f32⟩
  | 86 => ⟨S_, .f32⟩
  | 87 => ⟨S16384x10, .f32⟩
  | 88 => ⟨S16384x10, .f32⟩
  | 89 => ⟨S10x8, .f32⟩
  | 90 => ⟨S16384x8, .f32⟩
  | 91 => ⟨S1x8, .f32⟩
  | 92 => ⟨S16384x8, .f32⟩
  | 93 => ⟨S16384x8, .f32⟩
  | 94 => ⟨S_, .f32⟩
  | 95 => ⟨S16384, .f32⟩
  | 96 => ⟨S16384x1, .f32⟩
  | 97 => ⟨S_, .f32⟩
  | 98 => ⟨S16384x1, .f32⟩
  | 99 => ⟨S16384x1, .f32⟩
  | 100 => ⟨S_, .f32⟩
  | 101 => ⟨S16384, .f32⟩
  | 102 => ⟨S16384x1, .f32⟩
  | 103 => ⟨S_, .f32⟩
  | 104 => ⟨S16384, .f32⟩
  | 105 => ⟨S16384x1, .f32⟩
  | 106 => ⟨S_, .i32⟩
  | 107 => ⟨S_, .f32⟩
  | 108 => ⟨S16384, .f32⟩
  | 109 => ⟨S16384x1, .f32⟩
  | 110 => ⟨S_, .f32⟩
  | 111 => ⟨S16384x1, .f32⟩
  | 112 => ⟨S16384x1, .f32⟩
  | 113 => ⟨S16384x200, .f32⟩
  | 114 => ⟨S16384x200, .f32⟩
  | 115 => ⟨S16384x200, .f32⟩
  | 116 => ⟨S_, .f32⟩
  | 117 => ⟨S_, .f32⟩
  | 118 => ⟨S_, .f32⟩
  | 119 => ⟨S_, .f32⟩
  | 120 => ⟨S16384, .f32⟩
  | 121 => ⟨S16384x1, .f32⟩
  | 122 => ⟨S16384x1, .f32⟩
  | 123 => ⟨S16384x1, .f32⟩
  | 124 => ⟨S_, .f32⟩
  | 125 => ⟨S_, .i1⟩
  | 126 => ⟨S_, .f32⟩
  | 127 => ⟨S_, .f32⟩
  | _ => ⟨S16384x200, .f32⟩

abbrev hbmTy0_2 (i : Nat) : BufTy := match i % 128 with
  | 0 => ⟨S16384x1, .f32⟩
  | 1 => ⟨S16384x1, .f32⟩
  | 2 => ⟨S16384x1, .f32⟩
  | 3 => ⟨S16384x4, .f32⟩
  | 4 => ⟨S4x8, .f32⟩
  | 5 => ⟨S16384x8, .f32⟩
  | 6 => ⟨S1x8, .f32⟩
  | 7 => ⟨S16384x8, .f32⟩
  | 8 => ⟨S16384x8, .f32⟩
  | 9 => ⟨S_, .f32⟩
  | 10 => ⟨S16384, .f32⟩
  | 11 => ⟨S_, .f32⟩
  | 12 => ⟨S16384, .f32⟩
  | 13 => ⟨S16384, .f32⟩
  | 14 => ⟨S_, .i32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S16384x200, .f32⟩
  | 22 => ⟨S16384x200, .f32⟩
  | 23 => ⟨S16384x200, .f32⟩
  | 24 => ⟨S_, .f32⟩
  | 25 => ⟨S_, .f32⟩
  | 26 => ⟨S_, .f32⟩
  | 27 => ⟨S_, .f32⟩
  | 28 => ⟨S16384, .f32⟩
  | 29 => ⟨S16384, .f32⟩
  | 30 => ⟨S16384, .f32⟩
  | 31 => ⟨S_, .f32⟩
  | 32 => ⟨S_, .i1⟩
  | 33 => ⟨S_, .f32⟩
  | 34 => ⟨S_, .f32⟩
  | 35 => ⟨S16384, .f32⟩
  | 36 => ⟨S16384, .f32⟩
  | 37 => ⟨S16384, .f32⟩
  | 38 => ⟨S_, .f32⟩
  | 39 => ⟨S16384, .f32⟩
  | 40 => ⟨S16384x1, .f32⟩
  | 41 => ⟨S16384x1, .f32⟩
  | 42 => ⟨S16384x1, .f32⟩
  | 43 => ⟨S16384x1, .f32⟩
  | 44 => ⟨S16384x1, .f32⟩
  | 45 => ⟨S16384x1, .f32⟩
  | 46 => ⟨S16384x6, .f32⟩
  | 47 => ⟨S6x8, .f32⟩
  | 48 => ⟨S16384x8, .f32⟩
  | 49 => ⟨S1x8, .f32⟩
  | 50 => ⟨S16384x8, .f32⟩
  | 51 => ⟨S16384x8, .f32⟩
  | 52 => ⟨S16384x32, .f32⟩
  | _ => ⟨S16384x200, .f32⟩

abbrev hbmTy (i : Nat) : BufTy := match i / 128 with
  | 0 => hbmTy0_0 i
  | 1 => hbmTy0_1 i
  | 2 => hbmTy0_2 i
  | _ => ⟨S16384x200, .f32⟩

abbrev bufTy : (tb : Table) → Fin (tcTables nBuf tb) → BufTy
  | .hbm, ⟨i, _⟩ => hbmTy i
  | _, _ => ⟨S16384x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_call0_v0 : Ref sig .tc := ⟨.hbm, 20, rfl⟩
abbrev main_call0_v1 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_c_2 : Ref sig .tc := ⟨.hbm, 32, rfl⟩
abbrev main_v12 : Ref sig .tc := ⟨.hbm, 33, rfl⟩
abbrev main_c_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_4 : Ref sig .tc := ⟨.hbm, 39, rfl⟩
abbrev main_c_5 : Ref sig .tc := ⟨.hbm, 40, rfl⟩
abbrev main_call1_v0 : Ref sig .tc := ⟨.hbm, 41, rfl⟩
abbrev main_call1_v1 : Ref sig .tc := ⟨.hbm, 42, rfl⟩
abbrev main_v17 : Ref sig .tc := ⟨.hbm, 43, rfl⟩
abbrev main_c_6 : Ref sig .tc := ⟨.hbm, 44, rfl⟩
abbrev main_v18 : Ref sig .tc := ⟨.hbm, 45, rfl⟩
abbrev main_v19 : Ref sig .tc := ⟨.hbm, 46, rfl⟩
abbrev main_c_7 : Ref sig .tc := ⟨.hbm, 47, rfl⟩
abbrev main_v20 : Ref sig .tc := ⟨.hbm, 48, rfl⟩
abbrev main_v21 : Ref sig .tc := ⟨.hbm, 49, rfl⟩
abbrev main_call2_c : Ref sig .tc := ⟨.hbm, 50, rfl⟩
abbrev main_call2_v0 : Ref sig .tc := ⟨.hbm, 51, rfl⟩
abbrev main_call2_v1 : Ref sig .tc := ⟨.hbm, 52, rfl⟩
abbrev main_v22 : Ref sig .tc := ⟨.hbm, 53, rfl⟩
abbrev main_c_8 : Ref sig .tc := ⟨.hbm, 54, rfl⟩
abbrev main_c_9 : Ref sig .tc := ⟨.hbm, 55, rfl⟩
abbrev main_v23 : Ref sig .tc := ⟨.hbm, 56, rfl⟩
abbrev main_c_10 : Ref sig .tc := ⟨.hbm, 57, rfl⟩
abbrev main_v24 : Ref sig .tc := ⟨.hbm, 58, rfl⟩
abbrev main_v25 : Ref sig .tc := ⟨.hbm, 59, rfl⟩
abbrev main_c_11 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_call3_c : Ref sig .tc := ⟨.hbm, 65, rfl⟩
abbrev main_call3_v0 : Ref sig .tc := ⟨.hbm, 66, rfl⟩
abbrev main_call3_v1 : Ref sig .tc := ⟨.hbm, 67, rfl⟩
abbrev main_v30 : Ref sig .tc := ⟨.hbm, 68, rfl⟩
abbrev main_v31 : Ref sig .tc := ⟨.hbm, 69, rfl⟩
abbrev main_c_12 : Ref sig .tc := ⟨.hbm, 70, rfl⟩
abbrev main_v32 : Ref sig .tc := ⟨.hbm, 71, rfl⟩
abbrev main_v33 : Ref sig .tc := ⟨.hbm, 72, rfl⟩
abbrev main_c_13 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_v38 : Ref sig .tc := ⟨.hbm, 81, rfl⟩
abbrev main_v39 : Ref sig .tc := ⟨.hbm, 82, rfl⟩
abbrev main_c_14 : Ref sig .tc := ⟨.hbm, 83, rfl⟩
abbrev main_v40 : Ref sig .tc := ⟨.hbm, 84, rfl⟩
abbrev main_v41 : Ref sig .tc := ⟨.hbm, 85, rfl⟩
abbrev main_c_15 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_call5_c : Ref sig .tc := ⟨.hbm, 91, rfl⟩
abbrev main_call5_v0 : Ref sig .tc := ⟨.hbm, 92, rfl⟩
abbrev main_call5_v1 : Ref sig .tc := ⟨.hbm, 93, rfl⟩
abbrev main_v46 : Ref sig .tc := ⟨.hbm, 94, rfl⟩
abbrev main_v47 : Ref sig .tc := ⟨.hbm, 95, rfl⟩
abbrev main_c_16 : Ref sig .tc := ⟨.hbm, 96, rfl⟩
abbrev main_v48 : Ref sig .tc := ⟨.hbm, 97, rfl⟩
abbrev main_v49 : Ref sig .tc := ⟨.hbm, 98, rfl⟩
abbrev main_c_17 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_call6_c : Ref sig .tc := ⟨.hbm, 104, rfl⟩
abbrev main_call6_v0 : Ref sig .tc := ⟨.hbm, 105, rfl⟩
abbrev main_call6_v1 : Ref sig .tc := ⟨.hbm, 106, rfl⟩
abbrev main_v54 : Ref sig .tc := ⟨.hbm, 107, rfl⟩
abbrev main_v55 : Ref sig .tc := ⟨.hbm, 108, rfl⟩
abbrev main_c_18 : Ref sig .tc := ⟨.hbm, 109, rfl⟩
abbrev main_v56 : Ref sig .tc := ⟨.hbm, 110, rfl⟩
abbrev main_v57 : Ref sig .tc := ⟨.hbm, 111, rfl⟩
abbrev main_c_19 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_call7_c : Ref sig .tc := ⟨.hbm, 117, rfl⟩
abbrev main_call7_v0 : Ref sig .tc := ⟨.hbm, 118, rfl⟩
abbrev main_call7_v1 : Ref sig .tc := ⟨.hbm, 119, rfl⟩
abbrev main_v62 : Ref sig .tc := ⟨.hbm, 120, rfl⟩
abbrev main_v63 : Ref sig .tc := ⟨.hbm, 121, rfl⟩
abbrev main_c_20 : Ref sig .tc := ⟨.hbm, 122, rfl⟩
abbrev main_v64 : Ref sig .tc := ⟨.hbm, 123, rfl⟩
abbrev main_v65 : Ref sig .tc := ⟨.hbm, 124, rfl⟩
abbrev main_call8_v0 : Ref sig .tc := ⟨.hbm, 125, rfl⟩
abbrev main_call8_v1 : Ref sig .tc := ⟨.hbm, 126, rfl⟩
abbrev main_call8_v2 : Ref sig .tc := ⟨.hbm, 127, rfl⟩
abbrev main_call8_v3 : Ref sig .tc := ⟨.hbm, 128, rfl⟩
abbrev main_call8_v4 : Ref sig .tc := ⟨.hbm, 129, rfl⟩
abbrev main_call8_c : Ref sig .tc := ⟨.hbm, 130, rfl⟩
abbrev main_call8_v5 : Ref sig .tc := ⟨.hbm, 131, rfl⟩
abbrev main_call8_v6 : Ref sig .tc := ⟨.hbm, 132, rfl⟩
abbrev main_call8_v7 : Ref sig .tc := ⟨.hbm, 133, rfl⟩
abbrev main_call8_c_0 : Ref sig .tc := ⟨.hbm, 134, rfl⟩
abbrev main_call8_v8 : Ref sig .tc := ⟨.hbm, 135, rfl⟩
abbrev main_call8_v9 : Ref sig .tc := ⟨.hbm, 136, rfl⟩
abbrev main_v66 : Ref sig .tc := ⟨.hbm, 137, rfl⟩
abbrev main_c_21 : Ref sig .tc := ⟨.hbm, 138, rfl⟩
abbrev main_c_22 : Ref sig .tc := ⟨.hbm, 139, rfl⟩
abbrev main_call9_v0 : Ref sig .tc := ⟨.hbm, 140, rfl⟩
abbrev main_call9_v1 : Ref sig .tc := ⟨.hbm, 141, rfl⟩
abbrev main_call9_v2 : Ref sig .tc := ⟨.hbm, 142, rfl⟩
abbrev main_call9_v3 : Ref sig .tc := ⟨.hbm, 143, rfl⟩
abbrev main_call9_v4 : Ref sig .tc := ⟨.hbm, 144, rfl⟩
abbrev main_v67 : Ref sig .tc := ⟨.hbm, 145, rfl⟩
abbrev main_c_23 : Ref sig .tc := ⟨.hbm, 146, rfl⟩
abbrev main_v68 : Ref sig .tc := ⟨.hbm, 147, rfl⟩
abbrev main_v69 : Ref sig .tc := ⟨.hbm, 148, rfl⟩
abbrev main_call10_v0 : Ref sig .tc := ⟨.hbm, 149, rfl⟩
abbrev main_call10_v1 : Ref sig .tc := ⟨.hbm, 150, rfl⟩
abbrev main_call10_v2 : Ref sig .tc := ⟨.hbm, 151, rfl⟩
abbrev main_call10_v3 : Ref sig .tc := ⟨.hbm, 152, rfl⟩
abbrev main_call10_v4 : Ref sig .tc := ⟨.hbm, 153, rfl⟩
abbrev main_v70 : Ref sig .tc := ⟨.hbm, 154, rfl⟩
abbrev main_cst_24 : Ref sig .tc := ⟨.hbm, 155, rfl⟩
abbrev main_v71 : Ref sig .tc := ⟨.hbm, 156, rfl⟩
abbrev main_cst_25 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_cst_26 : Ref sig .tc := ⟨.hbm, 161, rfl⟩
abbrev main_v75 : Ref sig .tc := ⟨.hbm, 162, rfl⟩
abbrev main_v76 : Ref sig .tc := ⟨.hbm, 163, rfl⟩
abbrev main_cst_27 : Ref sig .tc := ⟨.hbm, 164, rfl⟩
abbrev main_v77 : Ref sig .tc := ⟨.hbm, 165, rfl⟩
abbrev main_v78 : Ref sig .tc := ⟨.hbm, 166, rfl⟩
abbrev main_v79 : Ref sig .tc := ⟨.hbm, 167, rfl⟩
abbrev main_v80 : Ref sig .tc := ⟨.hbm, 168, rfl⟩
abbrev main_cst_28 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_c_29 : Ref sig .tc := ⟨.hbm, 184, rfl⟩
abbrev main_call11_v0 : Ref sig .tc := ⟨.hbm, 185, rfl⟩
abbrev main_call11_c : Ref sig .tc := ⟨.hbm, 186, rfl⟩
abbrev main_call11_v1 : Ref sig .tc := ⟨.hbm, 187, rfl⟩
abbrev main_call11_c_0 : Ref sig .tc := ⟨.hbm, 188, rfl⟩
abbrev main_call11_v2 : Ref sig .tc := ⟨.hbm, 189, rfl⟩
abbrev main_call11_v3 : Ref sig .tc := ⟨.hbm, 190, rfl⟩
abbrev main_call11_v4 : Ref sig .tc := ⟨.hbm, 191, rfl⟩
abbrev main_call11_c_1 : Ref sig .tc := ⟨.hbm, 192, rfl⟩
abbrev main_call11_v5 : Ref sig .tc := ⟨.hbm, 193, rfl⟩
abbrev main_call11_v6 : Ref sig .tc := ⟨.hbm, 194, rfl⟩
abbrev main_call11_c_2 : Ref sig .tc := ⟨.hbm, 195, rfl⟩
abbrev main_call11_v7 : Ref sig .tc := ⟨.hbm, 196, rfl⟩
abbrev main_call11_v8 : Ref sig .tc := ⟨.hbm, 197, rfl⟩
abbrev main_call11_c_3 : Ref sig .tc := ⟨.hbm, 198, rfl⟩
abbrev main_call11_v9 : Ref sig .tc := ⟨.hbm, 199, rfl⟩
abbrev main_call11_v10 : Ref sig .tc := ⟨.hbm, 200, rfl⟩
abbrev main_call11_v11 : Ref sig .tc := ⟨.hbm, 201, rfl⟩
abbrev main_call11_v12 : Ref sig .tc := ⟨.hbm, 202, rfl⟩
abbrev main_call11_v13 : Ref sig .tc := ⟨.hbm, 203, rfl⟩
abbrev main_call11_v14 : Ref sig .tc := ⟨.hbm, 204, rfl⟩
abbrev main_v95 : Ref sig .tc := ⟨.hbm, 205, rfl⟩
abbrev main_call12_v0 : Ref sig .tc := ⟨.hbm, 206, rfl⟩
abbrev main_call12_v1 : Ref sig .tc := ⟨.hbm, 207, rfl⟩
abbrev main_call12_v2 : Ref sig .tc := ⟨.hbm, 208, rfl⟩
abbrev main_call12_v3 : Ref sig .tc := ⟨.hbm, 209, rfl⟩
abbrev main_call12_v4 : Ref sig .tc := ⟨.hbm, 210, rfl⟩
abbrev main_v96 : Ref sig .tc := ⟨.hbm, 211, rfl⟩
abbrev main_cst_30 : Ref sig .tc := ⟨.hbm, 212, rfl⟩
abbrev main_v97 : Ref sig .tc := ⟨.hbm, 213, rfl⟩
abbrev main_cst_31 : Ref sig .tc := ⟨.hbm, 214, rfl⟩
abbrev main_v98 : Ref sig .tc := ⟨.hbm, 215, rfl⟩
abbrev main_v99 : Ref sig .tc := ⟨.hbm, 216, rfl⟩
abbrev main_v100 : Ref sig .tc := ⟨.hbm, 217, rfl⟩
abbrev main_v101 : Ref sig .tc := ⟨.hbm, 218, rfl⟩
abbrev main_v102 : Ref sig .tc := ⟨.hbm, 219, rfl⟩
abbrev main_v103 : Ref sig .tc := ⟨.hbm, 220, rfl⟩
abbrev main_v104 : Ref sig .tc := ⟨.hbm, 221, rfl⟩
abbrev main_cst_32 : Ref sig .tc := ⟨.hbm, 222, rfl⟩
abbrev main_v105 : Ref sig .tc := ⟨.hbm, 223, rfl⟩
abbrev main_v106 : Ref sig .tc := ⟨.hbm, 224, rfl⟩
abbrev main_cst_33 : Ref sig .tc := ⟨.hbm, 225, rfl⟩
abbrev main_v107 : Ref sig .tc := ⟨.hbm, 226, rfl⟩
abbrev main_v108 : Ref sig .tc := ⟨.hbm, 227, rfl⟩
abbrev main_cst_34 : Ref sig .tc := ⟨.hbm, 228, rfl⟩
abbrev main_v109 : Ref sig .tc := ⟨.hbm, 229, rfl⟩
abbrev main_v110 : Ref sig .tc := ⟨.hbm, 230, rfl⟩
abbrev main_cst_35 : Ref sig .tc := ⟨.hbm, 231, rfl⟩
abbrev main_v111 : Ref sig .tc := ⟨.hbm, 232, rfl⟩
abbrev main_v112 : Ref sig .tc := ⟨.hbm, 233, rfl⟩
abbrev main_c_36 : Ref sig .tc := ⟨.hbm, 234, rfl⟩
abbrev main_call13_call0_cst : Ref sig .tc := ⟨.hbm, 235, rfl⟩
abbrev main_call13_call0_v0 : Ref sig .tc := ⟨.hbm, 236, rfl⟩
abbrev main_call13_call0_v1 : Ref sig .tc := ⟨.hbm, 237, rfl⟩
abbrev main_call13_call0_cst_0 : Ref sig .tc := ⟨.hbm, 238, rfl⟩
abbrev main_call13_call0_v2 : Ref sig .tc := ⟨.hbm, 239, rfl⟩
abbrev main_call13_call0_v3 : Ref sig .tc := ⟨.hbm, 240, rfl⟩
abbrev main_call13_call0_v4 : Ref sig .tc := ⟨.hbm, 241, rfl⟩
abbrev main_call13_call0_v5 : Ref sig .tc := ⟨.hbm, 242, rfl⟩
abbrev main_call13_call0_v6 : Ref sig .tc := ⟨.hbm, 243, rfl⟩
abbrev main_call13_call0_v7 : Ref sig .tc := ⟨.hbm, 244, rfl⟩
abbrev main_call13_call0_cst_1 : Ref sig .tc := ⟨.hbm, 245, rfl⟩
abbrev main_call13_call0_v8 : Ref sig .tc := ⟨.hbm, 246, rfl⟩
abbrev main_call13_call0_cst_2 : Ref sig .tc := ⟨.hbm, 247, rfl⟩
abbrev main_call13_call0_v9 : Ref sig .tc := ⟨.hbm, 248, rfl⟩
abbrev main_call13_call0_v10 : Ref sig .tc := ⟨.hbm, 249, rfl⟩
abbrev main_call13_call0_v11 : Ref sig .tc := ⟨.hbm, 250, rfl⟩
abbrev main_call13_call0_v12 : Ref sig .tc := ⟨.hbm, 251, rfl⟩
abbrev main_call13_call0_cst_3 : Ref sig .tc := ⟨.hbm, 252, rfl⟩
abbrev main_call13_call0_v13 : Ref sig .tc := ⟨.hbm, 253, rfl⟩
abbrev main_call13_call0_cst_4 : Ref sig .tc := ⟨.hbm, 254, rfl⟩
abbrev main_call13_call0_call0_v0 : Ref sig .tc := ⟨.hbm, 255, rfl⟩
abbrev main_call13_call0_call0_v1 : Ref sig .tc := ⟨.hbm, 256, rfl⟩
abbrev main_call13_v0 : Ref sig .tc := ⟨.hbm, 257, rfl⟩
abbrev main_v113 : Ref sig .tc := ⟨.hbm, 258, rfl⟩
abbrev main_v114 : Ref sig .tc := ⟨.hbm, 259, rfl⟩
abbrev main_v115 : Ref sig .tc := ⟨.hbm, 260, rfl⟩
abbrev main_v116 : Ref sig .tc := ⟨.hbm, 261, rfl⟩
abbrev main_v117 : Ref sig .tc := ⟨.hbm, 262, rfl⟩
abbrev main_v118 : Ref sig .tc := ⟨.hbm, 263, rfl⟩
abbrev main_v119 : Ref sig .tc := ⟨.hbm, 264, rfl⟩
abbrev main_cst_37 : Ref sig .tc := ⟨.hbm, 265, rfl⟩
abbrev main_v120 : Ref sig .tc := ⟨.hbm, 266, rfl⟩
abbrev main_cst_38 : Ref sig .tc := ⟨.hbm, 267, rfl⟩
abbrev main_v121 : Ref sig .tc := ⟨.hbm, 268, rfl⟩
abbrev main_v122 : Ref sig .tc := ⟨.hbm, 269, rfl⟩
abbrev main_c_39 : Ref sig .tc := ⟨.hbm, 270, rfl⟩
abbrev main_call14_call0_cst : Ref sig .tc := ⟨.hbm, 271, rfl⟩
abbrev main_call14_call0_v0 : Ref sig .tc := ⟨.hbm, 272, rfl⟩
abbrev main_call14_call0_v1 : Ref sig .tc := ⟨.hbm, 273, rfl⟩
abbrev main_call14_call0_cst_0 : Ref sig .tc := ⟨.hbm, 274, rfl⟩
abbrev main_call14_call0_v2 : Ref sig .tc := ⟨.hbm, 275, rfl⟩
abbrev main_call14_call0_v3 : Ref sig .tc := ⟨.hbm, 276, rfl⟩
abbrev main_call14_call0_v4 : Ref sig .tc := ⟨.hbm, 277, rfl⟩
abbrev main_call14_call0_v5 : Ref sig .tc := ⟨.hbm, 278, rfl⟩
abbrev main_call14_call0_v6 : Ref sig .tc := ⟨.hbm, 279, rfl⟩
abbrev main_call14_call0_v7 : Ref sig .tc := ⟨.hbm, 280, rfl⟩
abbrev main_call14_call0_cst_1 : Ref sig .tc := ⟨.hbm, 281, rfl⟩
abbrev main_call14_call0_v8 : Ref sig .tc := ⟨.hbm, 282, rfl⟩
abbrev main_call14_call0_cst_2 : Ref sig .tc := ⟨.hbm, 283, rfl⟩
abbrev main_call14_call0_v9 : Ref sig .tc := ⟨.hbm, 284, rfl⟩
abbrev main_call14_call0_v10 : Ref sig .tc := ⟨.hbm, 285, rfl⟩
abbrev main_call14_call0_v11 : Ref sig .tc := ⟨.hbm, 286, rfl⟩
abbrev main_call14_call0_cst_3 : Ref sig .tc := ⟨.hbm, 287, rfl⟩
abbrev main_call14_call0_v12 : Ref sig .tc := ⟨.hbm, 288, rfl⟩
abbrev main_call14_call0_cst_4 : Ref sig .tc := ⟨.hbm, 289, rfl⟩
abbrev main_call14_call0_call0_v0 : Ref sig .tc := ⟨.hbm, 290, rfl⟩
abbrev main_call14_call0_call0_v1 : Ref sig .tc := ⟨.hbm, 291, rfl⟩
abbrev main_call14_v0 : Ref sig .tc := ⟨.hbm, 292, rfl⟩
abbrev main_v123 : Ref sig .tc := ⟨.hbm, 293, rfl⟩
abbrev main_cst_40 : Ref sig .tc := ⟨.hbm, 294, rfl⟩
abbrev main_v124 : Ref sig .tc := ⟨.hbm, 295, rfl⟩
abbrev main_v125 : Ref sig .tc := ⟨.hbm, 296, rfl⟩
abbrev main_v126 : Ref sig .tc := ⟨.hbm, 297, rfl⟩
abbrev main_v127 : Ref sig .tc := ⟨.hbm, 298, rfl⟩
abbrev main_v128 : Ref sig .tc := ⟨.hbm, 299, rfl⟩
abbrev main_v129 : Ref sig .tc := ⟨.hbm, 300, rfl⟩
abbrev main_v130 : Ref sig .tc := ⟨.hbm, 301, rfl⟩
abbrev main_v131 : Ref sig .tc := ⟨.hbm, 302, rfl⟩
abbrev main_v132 : Ref sig .tc := ⟨.hbm, 303, rfl⟩
abbrev main_v133 : Ref sig .tc := ⟨.hbm, 304, rfl⟩
abbrev main_v134 : Ref sig .tc := ⟨.hbm, 305, rfl⟩
abbrev main_v135 : Ref sig .tc := ⟨.hbm, 306, rfl⟩
abbrev main_v136 : Ref sig .tc := ⟨.hbm, 307, rfl⟩
abbrev main_v137 : Ref sig .tc := ⟨.hbm, 308, rfl⟩

abbrev nD : Nat := 1
abbrev τ : Topo := Topo.v7x

variable {F : FTy → Type} [FloatOps F]
-- ==== Proof.Named.lean ====
module

public import proofs.«01_k».proof.Defs
public import Idealize.ShloMosaic.PureOps.IdealRules

@[expose] public section

noncomputable section

namespace Cert.Proof.Named

open Idealize.ShloMosaic Cert.KernelIdeal

/-- The rounded constants that the kernel was given are the words of the real numbers they stand for. -/
theorem preserves : Cert.preserves_Kernel_KernelIdeal :=
  ⟨IdealRules.named_const.statement κ "linv" .f32 _ _ rfl,
   IdealRules.named_const.statement κ "e1" .f32 _ _ rfl,
   IdealRules.named_const.statement κ "e2" .f32 _ _ rfl,
   IdealRules.named_const.statement κ "e3" .f32 _ _ rfl,
   IdealRules.named_const.statement κ "e4" .f32 _ _ rfl,
   IdealRules.named_const.statement κ "e5" .f32 _ _ rfl,
   IdealRules.named_const.statement κ "e6" .f32 _ _ rfl,
   IdealRules.named_const.statement κ "e7" .f32 _ _ rfl,
   IdealRules.named_const.statement κ "e8" .f32 _ _ rfl,
   IdealRules.named_const.statement κ "e9" .f32 _ _ rfl,
   IdealRules.named_const.statement κ "dinv" .f32 _ _ rfl⟩

/-- One over the length of a row. -/
theorem linv : Idealize.ShloMosaic.Named.named (F := Ideal) κ "linv" (φ := .f32) 0x3BA3D70A#32 = ((1 / 200 : ℝ) : EReal) :=
  IdealRules.named_const.ideal_named_scalar _ _ _ _ rfl

/-- One over the length of a row less one. -/
theorem dinv : Idealize.ShloMosaic.Named.named (F := Ideal) κ "dinv" (φ := .f32) 0x3BA4A9CF#32 = ((1 / 199 : ℝ) : EReal) :=
  IdealRules.named_const.ideal_named_scalar _ _ _ _ rfl

/-- The expected share of the leading digit 1. -/
theorem e1 : Idealize.ShloMosaic.Named.named (F := Ideal) κ "e1" (φ := .f32) 0x3E9A209B#32 = ((Real.log 2 * (Real.log 10)⁻¹ : ℝ) : EReal) :=
  IdealRules.named_const.ideal_named_scalar _ _ _ _ rfl

/-- The expected share of the leading digit 2. -/
theorem e2 : Idealize.ShloMosaic.Named.named (F := Ideal) κ "e2" (φ := .f32) 0x3E345144#32 = ((Real.log (3 / 2) * (Real.log 10)⁻¹ : ℝ) : EReal) :=
  IdealRules.named_const.ideal_named_scalar _ _ _ _ rfl

/-- The expected share of the leading digit 3. -/
theorem e3 : Idealize.ShloMosaic.Named.named (F := Ideal) κ "e3" (φ := .f32) 0x3DFFDFE1#32 = ((Real.log (4 / 3) * (Real.log 10)⁻¹ : ℝ) : EReal) :=
  IdealRules.named_const.ideal_named_scalar _ _ _ _ rfl

/-- The expected share of the leading digit 4. -/
theorem e4 : Idealize.ShloMosaic.Named.named (F := Ideal) κ "e4" (φ := .f32) 0x3DC678C2#32 = ((Real.log (5 / 4) * (Real.log 10)⁻¹ : ℝ) : EReal) :=
  IdealRules.named_const.ideal_named_scalar _ _ _ _ rfl

/-- The expected share of the leading digit 5. -/
theorem e5 : Idealize.ShloMosaic.Named.named (F := Ideal) κ "e5" (φ := .f32) 0x3DA229C7#32 = ((Real.log (6 / 5) * (Real.log 10)⁻¹ : ℝ) : EReal) :=
  IdealRules.named_const.ideal_named_scalar _ _ _ _ rfl

/-- The expected share of the leading digit 6. -/
theorem e6 : Idealize.ShloMosaic.Named.named (F := Ideal) κ "e6" (φ := .f32) 0x3D891B66#32 = ((Real.log (7 / 6) * (Real.log 10)⁻¹ : ℝ) : EReal) :=
  IdealRules.named_const.ideal_named_scalar _ _ _ _ rfl

/-- The expected share of the leading digit 7. -/
theorem e7 : Idealize.ShloMosaic.Named.named (F := Ideal) κ "e7" (φ := .f32) 0x3D6D88F7#32 = ((Real.log (8 / 7) * (Real.log 10)⁻¹ : ℝ) : EReal) :=
  IdealRules.named_const.ideal_named_scalar _ _ _ _ rfl

/-- The expected share of the leading digit 8. -/
theorem e8 : Idealize.ShloMosaic.Named.named (F := Ideal) κ "e8" (φ := .f32) 0x3D51854F#32 = ((Real.log (9 / 8) * (Real.log 10)⁻¹ : ℝ) : EReal) :=
  IdealRules.named_const.ideal_named_scalar _ _ _ _ rfl

/-- The expected share of the leading digit 9. -/
theorem e9 : Idealize.ShloMosaic.Named.named (F := Ideal) κ "e9" (φ := .f32) 0x3D3B6C35#32 = ((Real.log (10 / 9) * (Real.log 10)⁻¹ : ℝ) : EReal) :=
  IdealRules.named_const.ideal_named_scalar _ _ _ _ rfl

end Cert.Proof.Named
-- ==== Proof.Digits.lean ====
module

public import Idealize.ShloMosaic.PureOps.Ideal

@[expose] public section

namespace Cert.Proof.Digits

/-- The leading decimal digit of a number, zero counted as one. -/
def lead (n : ℕ) : ℕ := max n 1 / 10 ^ Nat.log 10 (max n 1)

/-- The largest power of ten in a positive number below ten to the tenth. -/
theorem power_chain (m : ℕ) (h1 : 1 ≤ m) (h2 : m < 10 ^ 10) :
    (if 1000000000 ≤ m then 1000000000 else if 100000000 ≤ m then 100000000 else if 10000000 ≤ m then 10000000
      else if 1000000 ≤ m then 1000000 else if 100000 ≤ m then 100000 else if 10000 ≤ m then 10000
      else if 1000 ≤ m then 1000 else if 100 ≤ m then 100 else if 10 ≤ m then 10 else 1) = 10 ^ Nat.log 10 m := by
  have key : ∀ k, 10 ^ k ≤ m → m < 10 ^ (k + 1) → Nat.log 10 m = k := fun k a b =>
    (Nat.log_eq_iff (.inr ⟨by norm_num, by omega⟩)).2 ⟨a, b⟩
  split_ifs with a b c d e f g h i
  · rw [key 9 (by omega) (by omega)]; norm_num
  · rw [key 8 (by omega) (by omega)]; norm_num
  · rw [key 7 (by omega) (by omega)]; norm_num
  · rw [key 6 (by omega) (by omega)]; norm_num
  · rw [key 5 (by omega) (by omega)]; norm_num
  · rw [key 4 (by omega) (by omega)]; norm_num
  · rw [key 3 (by omega) (by omega)]; norm_num
  · rw [key 2 (by omega) (by omega)]; norm_num
  · rw [key 1 (by omega) (by omega)]; norm_num
  · rw [key 0 (by omega) (by omega)]; norm_num

/-- The leading digit lies between one and nine. -/
theorem lead_range (n : ℕ) : 1 ≤ lead n ∧ lead n ≤ 9 := by
  have h1 : 1 ≤ max n 1 := le_max_right _ _
  have ha : 10 ^ Nat.log 10 (max n 1) ≤ max n 1 := Nat.pow_log_le_self 10 (by omega)
  have hb : max n 1 < 10 ^ (Nat.log 10 (max n 1) + 1) := Nat.lt_pow_succ_log_self (by norm_num) _
  have hp : 0 < 10 ^ Nat.log 10 (max n 1) := by positivity
  constructor
  · exact (Nat.one_le_div_iff hp).2 ha
  · have : lead n < 10 := (Nat.div_lt_iff_lt_mul hp).2 (by rw [pow_succ] at hb; omega)
    omega

/-- The leading digit counts the multiples of the largest power of ten, from twice to nine times, that the number reaches. -/
theorem lead_count (n : ℕ) (t : ℕ) (ht : t = 10 ^ Nat.log 10 (max n 1)) :
    (1 + (if 2 * t ≤ max n 1 then 1 else 0) + (if 3 * t ≤ max n 1 then 1 else 0) + (if 4 * t ≤ max n 1 then 1 else 0)
      + (if 5 * t ≤ max n 1 then 1 else 0) + (if 6 * t ≤ max n 1 then 1 else 0) + (if 7 * t ≤ max n 1 then 1 else 0)
      + (if 8 * t ≤ max n 1 then 1 else 0) + (if 9 * t ≤ max n 1 then 1 else 0) : ℕ) = lead n := by
  have hp : 0 < t := by rw [ht]; positivity
  have hq := lead_range n
  have hk : ∀ k, k * t ≤ max n 1 ↔ k ≤ lead n := fun k => by
    unfold lead; rw [← ht]; exact (Nat.le_div_iff_mul_le hp).symm
  simp only [hk]
  generalize lead n = q at hq
  obtain ⟨h1, h2⟩ := hq
  interval_cases q <;> rfl

/-- A number below ten leads with itself, zero with one. -/
theorem lead_small (n : ℕ) (h : n ≤ 9) : lead n = max n 1 := by
  have : Nat.log 10 (max n 1) = 0 := Nat.log_of_lt (by omega)
  unfold lead; rw [this]; simp

/-- The integer part of the decimal logarithm of a positive number. -/
theorem floor_log (m : ℕ) (h : 1 ≤ m) : ⌊Real.log m / Real.log 10⌋ = (Nat.log 10 m : ℤ) := by
  have hl : 0 < Real.log 10 := Real.log_pos (by norm_num)
  have hm : (0 : ℝ) < m := by exact_mod_cast h
  have ha : ((10 : ℝ) ^ Nat.log 10 m) ≤ m := by exact_mod_cast Nat.pow_log_le_self 10 (by omega)
  have hb : (m : ℝ) < (10 : ℝ) ^ (Nat.log 10 m + 1) := by exact_mod_cast Nat.lt_pow_succ_log_self (by norm_num) m
  rw [Int.floor_eq_iff]
  constructor
  · rw [le_div_iff₀ hl]
    have := Real.log_le_log (by positivity) ha
    rw [Real.log_pow] at this
    exact_mod_cast this
  · rw [div_lt_iff₀ hl]
    have := Real.log_lt_log hm hb
    rw [Real.log_pow] at this
    push_cast at this ⊢
    exact this

end Cert.Proof.Digits
-- ==== Proof.Spec.lean ====
module

public import proofs.«01_k».proof.Proof.Digits
public import Idealize.ShloMosaic.PureOps.Ideal

@[expose] public section

noncomputable section

namespace Cert.Proof.Spec

open Idealize.ShloMosaic Cert.Proof.Digits

/-- A row of two hundred extended reals. -/
abbrev Row : Type := Fin 200 → EReal

/-- The integer part of the magnitude of a number. -/
def mag (x : EReal) : ℕ := ⌊|x.toReal|⌋₊

/-- How many entries of a row have an integer part with the property. -/
def tally (q : ℕ → Prop) [DecidablePred q] (x : Row) : ℕ := (Finset.univ.filter fun l => q (mag (x l))).card

/-- A count over the row's length. -/
def freq (n : ℕ) : EReal := ((n : ℝ) : EReal) * ((1 / 200 : ℝ) : EReal)

/-- The share of numbers that lead with the digit, by the logarithmic law. -/
def share (k : ℕ) : EReal := ((Real.log ((k + 1) / k) * (Real.log 10)⁻¹ : ℝ) : EReal)

/-- How far the share of the entries that lead with the digit is from the law. -/
def ben (x : Row) (k : ℕ) : EReal :=
  max (freq (tally (fun n => lead n = k) x) - share k) (-(freq (tally (fun n => lead n = k) x) - share k))

/-- The share of the entries that end with the digit. -/
def rnd (x : Row) (k : ℕ) : EReal := freq (tally (fun n => n % 10 = k) x)

/-- The mean of a row. -/
def mean (x : Row) : EReal := (∑ l, x l) * ((1 / 200 : ℝ) : EReal)

/-- The unbiased standard deviation of a row, from its sum and its sum of squares. -/
def spread (x : Row) : EReal :=
  Ideal.sqrt (max ((∑ l, x l * x l) - (∑ l, x l) * mean x) 0 * ((1 / 199 : ℝ) : EReal))

/-- The least entry of a row. -/
def low (x : Row) : EReal := Finset.univ.fold min ⊤ x

/-- The greatest entry of a row. -/
def high (x : Row) : EReal := Finset.univ.fold max ⊥ x

/-- The four features of a row of holding times. -/
def turn (h : Row) : Fin 4 → EReal := ![mean h, low h, high h, spread h]

/-- The six features of the activity: three numbers and three features of the volumes. -/
def act (s0 s1 s2 : EReal) (v : Row) : Fin 6 → EReal := ![s0, s1, s2, mean v, spread v, ∑ l, v l]

/-- One entry of the result: features times weights, four groups of eight columns, plus a bias. -/
def entry (p v h : Row) (s0 s1 s2 : EReal) (wb : Fin 9 → Fin 8 → EReal) (wr : Fin 10 → Fin 8 → EReal)
    (wt : Fin 4 → Fin 8 → EReal) (wa : Fin 6 → Fin 8 → EReal) (bias : EReal) (j : Fin 32) : EReal :=
  (if h1 : j.1 < 8 then ∑ k : Fin 9, ben p (k.1 + 1) * wb k ⟨j.1, h1⟩
    else if h2 : j.1 - 8 < 8 then ∑ k : Fin 10, rnd p k.1 * wr k ⟨j.1 - 8, h2⟩
    else if h3 : j.1 - 8 - 8 < 8 then ∑ k : Fin 4, turn h k * wt k ⟨j.1 - 8 - 8, h3⟩
    else ∑ k : Fin 6, act s0 s1 s2 v k * wa k ⟨j.1 - 8 - 8 - 8, by omega⟩) + bias

/-- A sum over nine, written out. -/
theorem sum9 (f : Fin 9 → EReal) : ∑ k, f k = f 0 + f 1 + f 2 + f 3 + f 4 + f 5 + f 6 + f 7 + f 8 := by
  simp only [Fin.sum_univ_castSucc, Finset.univ_eq_empty, Finset.sum_empty, zero_add]; rfl

/-- A sum over ten, written out. -/
theorem sum10 (f : Fin 10 → EReal) : ∑ k, f k = f 0 + f 1 + f 2 + f 3 + f 4 + f 5 + f 6 + f 7 + f 8 + f 9 := by
  simp only [Fin.sum_univ_castSucc, Finset.univ_eq_empty, Finset.sum_empty, zero_add]; rfl

/-- A sum over four, written out. -/
theorem sum4 (f : Fin 4 → EReal) : ∑ k, f k = f 0 + f 1 + f 2 + f 3 := Fin.sum_univ_four f

/-- A sum over six, written out. -/
theorem sum6 (f : Fin 6 → EReal) : ∑ k, f k = f 0 + f 1 + f 2 + f 3 + f 4 + f 5 := Fin.sum_univ_six f

/-- The sum of real numbers, read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A count is at most the row's length. -/
theorem tally_le (q : ℕ → Prop) [DecidablePred q] (x : Row) : tally q x ≤ 200 :=
  (Finset.card_filter_le _ _).trans (by simp)

/-- Counts of equivalent properties agree. -/
theorem tally_congr (q q' : ℕ → Prop) [DecidablePred q] [DecidablePred q'] (x : Row)
    (h : ∀ l, q (mag (x l)) ↔ q' (mag (x l))) : tally q x = tally q' x := by
  unfold tally; congr 1; exact Finset.filter_congr fun l _ => h l

/-- A sum of indicators is a count. -/
theorem sum_indicator (q : ℕ → Prop) [DecidablePred q] (x : Row) :
    (∑ l, ((if q (mag (x l)) then 1 else 0 : ℕ))) = tally q x := by
  unfold tally; rw [Finset.card_filter]

/-- The same among extended reals. -/
theorem sum_indicator_ideal (q : ℕ → Prop) [DecidablePred q] (x : Row) (f : Fin 200 → EReal)
    (h : ∀ l, f l = if q (mag (x l)) then 1 else 0) : ∑ l, f l = ((tally q x : ℝ) : EReal) := by
  rw [← sum_indicator, Nat.cast_sum, ← coe_sum]
  refine Finset.sum_congr rfl fun l _ => ?_
  rw [h l]; split_ifs <;> simp

/-- The share of the digit 1. -/
theorem share1 : share 1 = ((Real.log 2 * (Real.log 10)⁻¹ : ℝ) : EReal) := by unfold share; norm_num

/-- The share of the digit 2. -/
theorem share2 : share 2 = ((Real.log (3 / 2) * (Real.log 10)⁻¹ : ℝ) : EReal) := by unfold share; norm_num

/-- The share of the digit 3. -/
theorem share3 : share 3 = ((Real.log (4 / 3) * (Real.log 10)⁻¹ : ℝ) : EReal) := by unfold share; norm_num

/-- The share of the digit 4. -/
theorem share4 : share 4 = ((Real.log (5 / 4) * (Real.log 10)⁻¹ : ℝ) : EReal) := by unfold share; norm_num

/-- The share of the digit 5. -/
theorem share5 : share 5 = ((Real.log (6 / 5) * (Real.log 10)⁻¹ : ℝ) : EReal) := by unfold share; norm_num

/-- The share of the digit 6. -/
theorem share6 : share 6 = ((Real.log (7 / 6) * (Real.log 10)⁻¹ : ℝ) : EReal) := by unfold share; norm_num

/-- The share of the digit 7. -/
theorem share7 : share 7 = ((Real.log (8 / 7) * (Real.log 10)⁻¹ : ℝ) : EReal) := by unfold share; norm_num

/-- The share of the digit 8. -/
theorem share8 : share 8 = ((Real.log (9 / 8) * (Real.log 10)⁻¹ : ℝ) : EReal) := by unfold share; norm_num

/-- The share of the digit 9. -/
theorem share9 : share 9 = ((Real.log (10 / 9) * (Real.log 10)⁻¹ : ℝ) : EReal) := by unfold share; norm_num

/-- One entry, with every sum of products written out. -/
theorem entry_eq (p v h : Row) (s0 s1 s2 : EReal) (wb : Fin 9 → Fin 8 → EReal) (wr : Fin 10 → Fin 8 → EReal)
    (wt : Fin 4 → Fin 8 → EReal) (wa : Fin 6 → Fin 8 → EReal) (bias : EReal) (j : Fin 32) :
    entry p v h s0 s1 s2 wb wr wt wa bias j =
      (if h1 : j.1 < 8 then ben p 1 * wb 0 ⟨j.1, h1⟩ + ben p 2 * wb 1 ⟨j.1, h1⟩ + ben p 3 * wb 2 ⟨j.1, h1⟩ + ben p 4 * wb 3 ⟨j.1, h1⟩ + ben p 5 * wb 4 ⟨j.1, h1⟩ + ben p 6 * wb 5 ⟨j.1, h1⟩ + ben p 7 * wb 6 ⟨j.1, h1⟩ + ben p 8 * wb 7 ⟨j.1, h1⟩ + ben p 9 * wb 8 ⟨j.1, h1⟩
        else if h2 : j.1 - 8 < 8 then rnd p 0 * wr 0 ⟨j.1 - 8, h2⟩ + rnd p 1 * wr 1 ⟨j.1 - 8, h2⟩ + rnd p 2 * wr 2 ⟨j.1 - 8, h2⟩ + rnd p 3 * wr 3 ⟨j.1 - 8, h2⟩ + rnd p 4 * wr 4 ⟨j.1 - 8, h2⟩ + rnd p 5 * wr 5 ⟨j.1 - 8, h2⟩ + rnd p 6 * wr 6 ⟨j.1 - 8, h2⟩ + rnd p 7 * wr 7 ⟨j.1 - 8, h2⟩ + rnd p 8 * wr 8 ⟨j.1 - 8, h2⟩ + rnd p 9 * wr 9 ⟨j.1 - 8, h2⟩
        else if h3 : j.1 - 8 - 8 < 8 then mean h * wt 0 ⟨j.1 - 8 - 8, h3⟩ + low h * wt 1 ⟨j.1 - 8 - 8, h3⟩ + high h * wt 2 ⟨j.1 - 8 - 8, h3⟩ + spread h * wt 3 ⟨j.1 - 8 - 8, h3⟩
        else s0 * wa 0 ⟨j.1 - 8 - 8 - 8, by omega⟩ + s1 * wa 1 ⟨j.1 - 8 - 8 - 8, by omega⟩ + s2 * wa 2 ⟨j.1 - 8 - 8 - 8, by omega⟩
          + mean v * wa 3 ⟨j.1 - 8 - 8 - 8, by omega⟩ + spread v * wa 4 ⟨j.1 - 8 - 8 - 8, by omega⟩ + (∑ l, v l) * wa 5 ⟨j.1 - 8 - 8 - 8, by omega⟩) + bias := by
  unfold entry
  simp only [sum9, sum10, sum4, sum6]
  rfl

/-- Entries of equal operands are equal. -/
theorem entry_congr {p p' v v' h h' : Row} {s0 s0' s1 s1' s2 s2' : EReal} {wb wb' : Fin 9 → Fin 8 → EReal} {wr wr' : Fin 10 → Fin 8 → EReal}
    {wt wt' : Fin 4 → Fin 8 → EReal} {wa wa' : Fin 6 → Fin 8 → EReal} {bias bias' : EReal} {j j' : Fin 32}
    (e1 : p = p') (e2 : v = v') (e3 : h = h') (e4 : s0 = s0') (e5 : s1 = s1') (e6 : s2 = s2') (e7 : wb = wb') (e8 : wr = wr')
    (e9 : wt = wt') (e10 : wa = wa') (e11 : bias = bias') (e12 : j = j') :
    entry p v h s0 s1 s2 wb wr wt wa bias j = entry p' v' h' s0' s1' s2' wb' wr' wt' wa' bias' j' := by
  subst e1 e2 e3 e4 e5 e6 e7 e8 e9 e10 e11 e12; rfl

end Cert.Proof.Spec
-- ==== Proof.Counts.lean ====
module

public import proofs.«01_k».proof.Proof.Spec

@[expose] public section

noncomputable section

namespace Cert.Proof.Counts

open Idealize.ShloMosaic Cert.Proof.Spec Cert.Proof.Digits

/-- The floor of the magnitude of a finite number. -/
theorem floor_abs (x : EReal) (h : x ≠ ⊥) (h' : x ≠ ⊤) :
    Ideal.liftRound Int.floor (FloatOps.absf (F := Ideal) (φ := .f32) x) = (((mag x : ℕ) : ℝ) : EReal) := by
  lift x to ℝ using ⟨h', h⟩
  have : FloatOps.absf (F := Ideal) (φ := .f32) (x : EReal) = ((|x| : ℝ) : EReal) := by
    show max (x : EReal) (-(x : EReal)) = _
    rw [← EReal.coe_neg, ← EReal.coe_strictMono.monotone.map_max]; rfl
  rw [this, Ideal.liftRound_coe]
  unfold mag
  rw [EReal.toReal_coe, ← Int.natCast_floor_eq_floor (abs_nonneg x)]
  simp

/-- Three counts packed into one sum: ones, two hundred and fifty-sixes and their square. -/
theorem packed (x : Row) (b : ℕ) (f : Fin 200 → EReal)
    (h : ∀ l, f l = if mag (x l) = b then 1 else if mag (x l) = b + 1 then ((256 : ℝ) : EReal)
      else if mag (x l) = b + 2 then ((65536 : ℝ) : EReal) else 0) :
    ∑ l, f l = (((tally (· = b) x + 256 * tally (· = b + 1) x + 65536 * tally (· = b + 2) x : ℕ) : ℝ) : EReal) := by
  rw [← sum_indicator, ← sum_indicator, ← sum_indicator, Finset.mul_sum, Finset.mul_sum, ← Finset.sum_add_distrib,
    ← Finset.sum_add_distrib, Nat.cast_sum, ← coe_sum]
  refine Finset.sum_congr rfl fun l _ => ?_
  rw [h l]
  split_ifs <;> first | omega | simp

/-- The third count is the floor of the sum over 65536. -/
theorem unpack2 (a b c : ℕ) (ha : a ≤ 200) (hb : b ≤ 200) :
    Ideal.liftRound Int.floor ((((a + 256 * b + 65536 * c : ℕ) : ℝ) : EReal) * ((1 / 65536 : ℝ) : EReal)) = ((c : ℝ) : EReal) := by
  rw [← EReal.coe_mul, Ideal.liftRound_coe]
  have : ⌊((a + 256 * b + 65536 * c : ℕ) : ℝ) * (1 / 65536)⌋ = (c : ℤ) := by
    have ha' : (a : ℝ) ≤ 200 := by exact_mod_cast ha
    have hb' : (b : ℝ) ≤ 200 := by exact_mod_cast hb
    have ha0 : (0 : ℝ) ≤ a := by positivity
    have hb0 : (0 : ℝ) ≤ b := by positivity
    rw [Int.floor_eq_iff]; push_cast
    constructor <;> linarith
  rw [this]; simp

/-- What is left without the third count. -/
theorem rest2 (a b c : ℕ) :
    ((((a + 256 * b + 65536 * c : ℕ) : ℝ) : EReal) - ((c : ℝ) : EReal) * ((65536 : ℝ) : EReal)) = (((a + 256 * b : ℕ) : ℝ) : EReal) := by
  rw [← EReal.coe_mul, ← EReal.coe_sub]; congr 1; push_cast; ring

/-- The second count is the floor of the rest over 256. -/
theorem unpack1 (a b : ℕ) (ha : a ≤ 200) :
    Ideal.liftRound Int.floor ((((a + 256 * b : ℕ) : ℝ) : EReal) * ((1 / 256 : ℝ) : EReal)) = ((b : ℝ) : EReal) := by
  rw [← EReal.coe_mul, Ideal.liftRound_coe]
  have : ⌊((a + 256 * b : ℕ) : ℝ) * (1 / 256)⌋ = (b : ℤ) := by
    have ha' : (a : ℝ) ≤ 200 := by exact_mod_cast ha
    have ha0 : (0 : ℝ) ≤ a := by positivity
    rw [Int.floor_eq_iff]; push_cast
    constructor <;> linarith
  rw [this]; simp

/-- What is left is the first count. -/
theorem rest1 (a b : ℕ) :
    ((((a + 256 * b : ℕ) : ℝ) : EReal) - ((b : ℝ) : EReal) * ((256 : ℝ) : EReal)) = ((a : ℝ) : EReal) := by
  rw [← EReal.coe_mul, ← EReal.coe_sub]; congr 1; push_cast; ring

/-- A natural number among the extended reals, compared. -/
theorem nat_eq (n k : ℕ) : (((n : ℝ) : EReal) = ((k : ℝ) : EReal)) ↔ n = k := by
  rw [EReal.coe_eq_coe_iff]; exact Nat.cast_inj

/-- A natural number among the reals, compared with a numeral. -/
theorem nat_num (n k : ℕ) [k.AtLeastTwo] : ((n : ℝ) = (OfNat.ofNat k : ℝ)) ↔ n = OfNat.ofNat k := by
  rw [← Nat.cast_ofNat (R := ℝ)]; exact Nat.cast_inj

/-- A natural number among the extended reals, ordered. -/
theorem nat_le (n k : ℕ) : (((n : ℝ) : EReal) ≤ ((k : ℝ) : EReal)) ↔ n ≤ k := by
  rw [EReal.coe_le_coe_iff]; exact Nat.cast_le

/-- With every integer part below ten, the leading digit one stands for zero and one. -/
theorem lead_one_small (x : Row) (h : ∀ l, mag (x l) ≤ 9) :
    tally (fun n => lead n = 1) x = tally (· = 0) x + tally (· = 1) x := by
  rw [← sum_indicator, ← sum_indicator, ← sum_indicator, ← Finset.sum_add_distrib]
  refine Finset.sum_congr rfl fun l _ => ?_
  rw [lead_small _ (h l)]
  split_ifs <;> omega

/-- With every integer part below ten, the other leading digits are the integer parts. -/
theorem lead_many_small (x : Row) (h : ∀ l, mag (x l) ≤ 9) (k : ℕ) (hk : 2 ≤ k) :
    tally (fun n => lead n = k) x = tally (· = k) x :=
  tally_congr _ _ _ fun l => by rw [lead_small _ (h l)]; omega

/-- With every integer part below ten, the last digits are the integer parts. -/
theorem last_small (x : Row) (h : ∀ l, mag (x l) ≤ 9) (k : ℕ) :
    tally (fun n => n % 10 = k) x = tally (· = k) x :=
  tally_congr _ _ _ fun l => by rw [Nat.mod_eq_of_lt (by have := h l; omega)]

end Cert.Proof.Counts
-- ==== Proof.Floats.lean ====
module

public import Idealize.ShloMosaic.PureOps.Ideal

@[expose] public section

noncomputable section

namespace Cert.Proof.Floats

open Idealize.ShloMosaic

/-- The word of 2. -/
theorem f2 : Ideal.ofBits .f32 1073741824#32 = ((2 : ℝ) : EReal) := by
  simp [Ideal.ofBits, Ideal.ieee] <;> simp only [← EReal.coe_pow, ← EReal.coe_mul] <;> norm_num

/-- The word of 3. -/
theorem f3 : Ideal.ofBits .f32 1077936128#32 = ((3 : ℝ) : EReal) := by
  simp [Ideal.ofBits, Ideal.ieee] <;> simp only [← EReal.coe_pow, ← EReal.coe_mul] <;> norm_num

/-- The word of 4. -/
theorem f4 : Ideal.ofBits .f32 1082130432#32 = ((4 : ℝ) : EReal) := by
  simp [Ideal.ofBits, Ideal.ieee] <;> simp only [← EReal.coe_pow, ← EReal.coe_mul] <;> norm_num

/-- The word of 5. -/
theorem f5 : Ideal.ofBits .f32 1084227584#32 = ((5 : ℝ) : EReal) := by
  simp [Ideal.ofBits, Ideal.ieee] <;> simp only [← EReal.coe_pow, ← EReal.coe_mul] <;> norm_num

/-- The word of 6. -/
theorem f6 : Ideal.ofBits .f32 1086324736#32 = ((6 : ℝ) : EReal) := by
  simp [Ideal.ofBits, Ideal.ieee] <;> simp only [← EReal.coe_pow, ← EReal.coe_mul] <;> norm_num

/-- The word of 7. -/
theorem f7 : Ideal.ofBits .f32 1088421888#32 = ((7 : ℝ) : EReal) := by
  simp [Ideal.ofBits, Ideal.ieee] <;> simp only [← EReal.coe_pow, ← EReal.coe_mul] <;> norm_num

/-- The word of 8. -/
theorem f8 : Ideal.ofBits .f32 1090519040#32 = ((8 : ℝ) : EReal) := by
  simp [Ideal.ofBits, Ideal.ieee] <;> simp only [← EReal.coe_pow, ← EReal.coe_mul] <;> norm_num

/-- The word of 9. -/
theorem f9 : Ideal.ofBits .f32 1091567616#32 = ((9 : ℝ) : EReal) := by
  simp [Ideal.ofBits, Ideal.ieee] <;> simp only [← EReal.coe_pow, ← EReal.coe_mul] <;> norm_num

/-- The word of 10. -/
theorem f10 : Ideal.ofBits .f32 1092616192#32 = ((10 : ℝ) : EReal) := by
  simp [Ideal.ofBits, Ideal.ieee] <;> simp only [← EReal.coe_pow, ← EReal.coe_mul] <;> norm_num

/-- The word of 200. -/
theorem f200 : Ideal.ofBits .f32 1128792064#32 = ((200 : ℝ) : EReal) := by
  simp [Ideal.ofBits, Ideal.ieee] <;> simp only [← EReal.coe_pow, ← EReal.coe_mul] <;> norm_num

/-- The word of 256. -/
theorem f256 : Ideal.ofBits .f32 1132462080#32 = ((256 : ℝ) : EReal) := by
  simp [Ideal.ofBits, Ideal.ieee] <;> simp only [← EReal.coe_pow, ← EReal.coe_mul] <;> norm_num

/-- The word of 65536. -/
theorem f65536 : Ideal.ofBits .f32 1199570944#32 = ((65536 : ℝ) : EReal) := by
  simp [Ideal.ofBits, Ideal.ieee] <;> simp only [← EReal.coe_pow, ← EReal.coe_mul] <;> norm_num

/-- The word of 1 over 256. -/
theorem f1_256 : Ideal.ofBits .f32 998244352#32 = ((1 / 256 : ℝ) : EReal) := by
  simp [Ideal.ofBits, Ideal.ieee] <;> simp only [← EReal.coe_pow, ← EReal.coe_mul] <;> norm_num

/-- The word of 1 over 65536. -/
theorem f1_65536 : Ideal.ofBits .f32 931135488#32 = ((1 / 65536 : ℝ) : EReal) := by
  simp [Ideal.ofBits, Ideal.ieee] <;> simp only [← EReal.coe_pow, ← EReal.coe_mul] <;> norm_num

/-- The word of 100. -/
theorem f100 : Ideal.ofBits .f32 1120403456#32 = ((100 : ℝ) : EReal) := by
  simp [Ideal.ofBits, Ideal.ieee] <;> simp only [← EReal.coe_pow, ← EReal.coe_mul] <;> norm_num

/-- The word of 1000. -/
theorem f1000 : Ideal.ofBits .f32 1148846080#32 = ((1000 : ℝ) : EReal) := by
  simp [Ideal.ofBits, Ideal.ieee] <;> simp only [← EReal.coe_pow, ← EReal.coe_mul] <;> norm_num

/-- The word of 10000. -/
theorem f10000 : Ideal.ofBits .f32 1176256512#32 = ((10000 : ℝ) : EReal) := by
  simp [Ideal.ofBits, Ideal.ieee] <;> simp only [← EReal.coe_pow, ← EReal.coe_mul] <;> norm_num

/-- The word of 100000. -/
theorem f100000 : Ideal.ofBits .f32 1203982336#32 = ((100000 : ℝ) : EReal) := by
  simp [Ideal.ofBits, Ideal.ieee] <;> simp only [← EReal.coe_pow, ← EReal.coe_mul] <;> norm_num

/-- The word of 1000000. -/
theorem f1000000 : Ideal.ofBits .f32 1232348160#32 = ((1000000 : ℝ) : EReal) := by
  simp [Ideal.ofBits, Ideal.ieee] <;> simp only [← EReal.coe_pow, ← EReal.coe_mul] <;> norm_num

/-- The word of 10000000. -/
theorem f10000000 : Ideal.ofBits .f32 1259902592#32 = ((10000000 : ℝ) : EReal) := by
  simp [Ideal.ofBits, Ideal.ieee] <;> simp only [← EReal.coe_pow, ← EReal.coe_mul] <;> norm_num

/-- The word of 100000000. -/
theorem f100000000 : Ideal.ofBits .f32 1287568416#32 = ((100000000 : ℝ) : EReal) := by
  simp [Ideal.ofBits, Ideal.ieee] <;> simp only [← EReal.coe_pow, ← EReal.coe_mul] <;> norm_num

/-- The word of 1000000000. -/
theorem f1000000000 : Ideal.ofBits .f32 1315859240#32 = ((1000000000 : ℝ) : EReal) := by
  simp [Ideal.ofBits, Ideal.ieee] <;> simp only [← EReal.coe_pow, ← EReal.coe_mul] <;> norm_num

/-- The word of 2147483648. -/
theorem f2147483648 : Ideal.ofBits .f32 1325400064#32 = ((2147483648 : ℝ) : EReal) := by
  simp [Ideal.ofBits, Ideal.ieee] <;> simp only [← EReal.coe_pow, ← EReal.coe_mul] <;> norm_num

/-- The word of the least upper bound. -/
theorem fTop : Ideal.ofBits .f32 2139095040#32 = ⊤ := by simp [Ideal.ofBits, Ideal.ieee]

/-- The word of the greatest lower bound. -/
theorem fBot : Ideal.ofBits .f32 4286578688#32 = ⊥ := by simp [Ideal.ofBits, Ideal.ieee]

end Cert.Proof.Floats
-- ==== Proof.KernelIdeal.Fast.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.RegionsCase
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.HostLoop.Plain
public import Idealize.ShloMosaic.Lib.HostLoop.Lifted

@[expose] public section

-- a rectangle of 2048 rows is checked coordinate by coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf CSeg CaseSeg Ticket)

variable {F : FTy → Type} [FloatOps F] [Named F]

/-- The resource algebra: one copy of the pipeline's per call, beside the counters. -/
abbrev UU : Type := IProdConst (Fin 2) (UR sig nD τ) × Counters

local notation "𝕄" => MT nD τ sig Unit (Elt F) ℕ UU ℕ

/-! # The first call: the counts read off a packed sum

The blocks of the first pallas_call, its body run over them, and the obligation that the pipeline asks of it. -/

variable (V : (c : Dev nD) → (b : Ref sig .tc) → Buf (Elt F) ((c : Thread nD τ).loc b))

/-- The block of window w at grid point t, read from its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of call 0 stages its block at every grid point, whatever the proof data with these arrays. -/
theorem before0_0_of {c : Dev nD} (dat : Dat τ (Elt F) Unit ℕ (UU) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of call 0 stages its block at every grid point, whatever the proof data with these arrays. -/
theorem before0_1_of {c : Dev nD} (dat : Dat τ (Elt F) Unit ℕ (UU) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of call 0 stages its block at every grid point, whatever the proof data with these arrays. -/
theorem before0_2_of {c : Dev nD} (dat : Dat τ (Elt F) Unit ℕ (UU) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 of call 0 stages its block at every grid point, whatever the proof data with these arrays. -/
theorem before0_3_of {c : Dev nD} (dat : Dat τ (Elt F) Unit ℕ (UU) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 of call 0 stages its block at every grid point, whatever the proof data with these arrays. -/
theorem before0_4_of {c : Dev nD} (dat : Dat τ (Elt F) Unit ℕ (UU) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5 of call 0 stages its block at every grid point, whatever the proof data with these arrays. -/
theorem before0_5_of {c : Dev nD} (dat : Dat τ (Elt F) Unit ℕ (UU) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6 of call 0 stages its block at every grid point, whatever the proof data with these arrays. -/
theorem before0_6_of {c : Dev nD} (dat : Dat τ (Elt F) Unit ℕ (UU) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- Input window 7 of call 0 stages its block at every grid point, whatever the proof data with these arrays. -/
theorem before0_7_of {c : Dev nD} (dat : Dat τ (Elt F) Unit ℕ (UU) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- Input window 8 of call 0 stages its block at every grid point, whatever the proof data with these arrays. -/
theorem before0_8_of {c : Dev nD} (dat : Dat τ (Elt F) Unit ℕ (UU) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x200 := Rect.unit (s := S2048x200) ![0, 0] S2048x200.size inb_S2048x200_S2048x200_0_0
abbrev r0_1 : Rect S8x128 := Rect.unit (s := S8x128) ![0, 0] S8x128.size inb_S8x128_S8x128_0_0
abbrev r0_2 : Rect S16x8 := Rect.unit (s := S16x8) ![0, 0] S1x8.size inb_S16x8_S1x8_0_0
abbrev r0_3 : Rect S16x8 := Rect.unit (s := S16x8) ![1, 0] S1x8.size inb_S16x8_S1x8_1_0
abbrev r0_4 : Rect S16x8 := Rect.unit (s := S16x8) ![2, 0] S1x8.size inb_S16x8_S1x8_2_0
abbrev r0_5 : Rect S16x8 := Rect.unit (s := S16x8) ![3, 0] S1x8.size inb_S16x8_S1x8_3_0
abbrev r0_6 : Rect S16x8 := Rect.unit (s := S16x8) ![4, 0] S1x8.size inb_S16x8_S1x8_4_0
abbrev r0_7 : Rect S16x8 := Rect.unit (s := S16x8) ![5, 0] S1x8.size inb_S16x8_S1x8_5_0
abbrev r0_8 : Rect S16x8 := Rect.unit (s := S16x8) ![6, 0] S1x8.size inb_S16x8_S1x8_6_0
abbrev r0_9 : Rect S16x8 := Rect.unit (s := S16x8) ![7, 0] S1x8.size inb_S16x8_S1x8_7_0
abbrev r0_10 : Rect S16x8 := Rect.unit (s := S16x8) ![8, 0] S1x8.size inb_S16x8_S1x8_8_0
abbrev r0_11 : Rect S16x8 := Rect.unit (s := S16x8) ![9, 0] S1x8.size inb_S16x8_S1x8_9_0
abbrev r0_12 : Rect S8x8 := Rect.unit (s := S8x8) ![0, 0] S1x8.size inb_S8x8_S1x8_0_0
abbrev r0_13 : Rect S8x8 := Rect.unit (s := S8x8) ![1, 0] S1x8.size inb_S8x8_S1x8_1_0
abbrev r0_14 : Rect S8x8 := Rect.unit (s := S8x8) ![2, 0] S1x8.size inb_S8x8_S1x8_2_0
abbrev r0_15 : Rect S8x8 := Rect.unit (s := S8x8) ![3, 0] S1x8.size inb_S8x8_S1x8_3_0
abbrev r0_16 : Rect S2048x3 := Rect.unit (s := S2048x3) ![0, 0] S2048x1.size inb_S2048x3_S2048x1_0_0
abbrev r0_17 : Rect S2048x3 := Rect.unit (s := S2048x3) ![0, 1] S2048x1.size inb_S2048x3_S2048x1_0_1
abbrev r0_18 : Rect S2048x3 := Rect.unit (s := S2048x3) ![0, 2] S2048x1.size inb_S2048x3_S2048x1_0_2
abbrev r0_19 : Rect S8x8 := Rect.unit (s := S8x8) ![4, 0] S1x8.size inb_S8x8_S1x8_4_0
abbrev r0_20 : Rect S8x8 := Rect.unit (s := S8x8) ![5, 0] S1x8.size inb_S8x8_S1x8_5_0
abbrev r0_21 : Rect S1x32 := Rect.unit (s := S1x32) ![0, 0] S1x32.size inb_S1x32_S1x32_0_0
abbrev r0_22 : Rect S2048x32 := Rect.unit (s := S2048x32) ![0, 0] S2048x32.size inb_S2048x32_S2048x32_0_0

/-- A value that the body of call 0 uses more than once. -/
def k0_pay45 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k0_pay2 (View.ld x0 r0_0) -- `v2`
/-- A value that the body of call 0 uses more than once. -/
def k0_pay46 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay5 (View.ld x0 r0_0) -- `v26`
/-- A value that the body of call 0 uses more than once. -/
def k0_pay47 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay7 (View.ld x0 r0_0) -- `v32`
/-- A value that the body of call 0 uses more than once. -/
def k0_pay48 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay8 (View.ld x0 r0_0) -- `v35`
/-- A value that the body of call 0 uses more than once. -/
def k0_pay49 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : IVec S2048x200 1 :=
  k0_pay9 (View.ld x0 r0_0) -- `v37`
/-- A value that the body of call 0 uses more than once. -/
def k0_pay50 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k0_pay10 (F := F) -- `v38`
/-- A value that the body of call 0 uses more than once. -/
def k0_pay51 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay12 (k0_pay45 x0 x1 x2 x3 x4 x5 x6 x7 x8) (k0_pay49 x0 x1 x2 x3 x4 x5 x6 x7 x8) (k0_pay50 x0 x1 x2 x3 x4 x5 x6 x7 x8) -- `v53`
/-- A value that the body of call 0 uses more than once. -/
def k0_pay52 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay14 (k0_pay45 x0 x1 x2 x3 x4 x5 x6 x7 x8) (k0_pay49 x0 x1 x2 x3 x4 x5 x6 x7 x8) (k0_pay50 x0 x1 x2 x3 x4 x5 x6 x7 x8) -- `v59`
/-- A value that the body of call 0 uses more than once. -/
def k0_pay53 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay15 (k0_pay45 x0 x1 x2 x3 x4 x5 x6 x7 x8) (k0_pay49 x0 x1 x2 x3 x4 x5 x6 x7 x8) (k0_pay50 x0 x1 x2 x3 x4 x5 x6 x7 x8) -- `v62`
/-- A value that the body of call 0 uses more than once. -/
def k0_pay54 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay16 (k0_pay45 x0 x1 x2 x3 x4 x5 x6 x7 x8) -- `v77`
/-- A value that the body of call 0 uses more than once. -/
def k0_pay55 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay17 (k0_pay45 x0 x1 x2 x3 x4 x5 x6 x7 x8) -- `v79`
/-- A value that the body of call 0 uses more than once. -/
def k0_pay56 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay18 (k0_pay55 x0 x1 x2 x3 x4 x5 x6 x7 x8) -- `v80`
/-- A value that the body of call 0 uses more than once. -/
def k0_pay57 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay20 (k0_pay54 x0 x1 x2 x3 x4 x5 x6 x7 x8) (k0_pay55 x0 x1 x2 x3 x4 x5 x6 x7 x8) -- `v86`
/-- A value that the body of call 0 uses more than once. -/
def k0_pay58 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay21 (k0_pay54 x0 x1 x2 x3 x4 x5 x6 x7 x8) (k0_pay55 x0 x1 x2 x3 x4 x5 x6 x7 x8) -- `v89`
/-- A value that the body of call 0 uses more than once. -/
def k0_pay59 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k0_pay22 (k0_pay45 x0 x1 x2 x3 x4 x5 x6 x7 x8) -- `v95`

/-- What the body of call 0 leaves in output window 9, as a function of the input blocks. -/
def out0_9 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : Vec F S2048x32 .f32 :=
  View.canon [⟨r0_22, k0_pay1 (k0_pay44 (k0_pay27 (k0_pay56 x0 x1 x2 x3 x4 x5 x6 x7 x8) (k0_pay59 x0 x1 x2 x3 x4 x5 x6 x7 x8) (k0_pay25 (k0_pay51 x0 x1 x2 x3 x4 x5 x6 x7 x8) (k0_pay52 x0 x1 x2 x3 x4 x5 x6 x7 x8) (k0_pay58 x0 x1 x2 x3 x4 x5 x6 x7 x8) (k0_pay23 (k0_pay46 x0 x1 x2 x3 x4 x5 x6 x7 x8) (k0_pay47 x0 x1 x2 x3 x4 x5 x6 x7 x8) (k0_pay48 x0 x1 x2 x3 x4 x5 x6 x7 x8) (View.ld x4 r0_2) (View.ld x4 r0_3)) (k0_pay24 (k0_pay53 x0 x1 x2 x3 x4 x5 x6 x7 x8)) (View.ld x4 r0_4) (View.ld x4 r0_5) (View.ld x4 r0_6) (View.ld x4 r0_7)) (k0_pay26 (k0_pay57 x0 x1 x2 x3 x4 x5 x6 x7 x8)) (View.ld x4 r0_8) (View.ld x4 r0_9) (View.ld x4 r0_10)) (k0_pay33 (k0_pay56 x0 x1 x2 x3 x4 x5 x6 x7 x8) (k0_pay57 x0 x1 x2 x3 x4 x5 x6 x7 x8) (k0_pay59 x0 x1 x2 x3 x4 x5 x6 x7 x8) (k0_pay31 (k0_pay46 x0 x1 x2 x3 x4 x5 x6 x7 x8) (k0_pay51 x0 x1 x2 x3 x4 x5 x6 x7 x8) (k0_pay52 x0 x1 x2 x3 x4 x5 x6 x7 x8) (k0_pay53 x0 x1 x2 x3 x4 x5 x6 x7 x8) (k0_pay58 x0 x1 x2 x3 x4 x5 x6 x7 x8) (k0_pay28 (k0_pay48 x0 x1 x2 x3 x4 x5 x6 x7 x8) (View.ld x5 r0_2)) (k0_pay29 (View.ld x5 r0_3)) (k0_pay30 (k0_pay47 x0 x1 x2 x3 x4 x5 x6 x7 x8)) (View.ld x5 r0_4) (View.ld x5 r0_5) (View.ld x5 r0_6) (View.ld x5 r0_7) (View.ld x5 r0_8)) (k0_pay32 (F := F)) (View.ld x5 r0_9) (View.ld x5 r0_10) (View.ld x5 r0_11)) (k0_pay39 (k0_pay35 (View.ld x2 r0_0)) (k0_pay36 (View.ld x2 r0_0)) (k0_pay37 (View.ld x2 r0_0)) (k0_pay38 (View.ld x2 r0_0)) (Scalar.ofBits .f32 0x00000000#32) (View.ld x6 r0_12) (View.ld x6 r0_13) (View.ld x6 r0_14) (View.ld x6 r0_15)) (k0_pay40 (View.ld x1 r0_0)) (k0_pay41 (View.ld x1 r0_0)) (k0_pay42 (View.ld x1 r0_0)) (k0_pay43 (View.ld x3 r0_16)) (View.ld x3 r0_17) (View.ld x3 r0_18) (View.ld x7 r0_12) (View.ld x7 r0_13) (View.ld x7 r0_14) (View.ld x7 r0_15) (View.ld x7 r0_19) (View.ld x7 r0_20)) (View.ld x8 r0_21)⟩]

/-- The store into output window 9 fills the whole block. -/
theorem cover0_9 (p0 : Vec F S2048x32 .f32) (y : S2048x32.Idx) :
    ∃ pc ∈ ([⟨r0_22, p0⟩] : List (View.Piece (Elt F) S2048x32 .f32)), y ∈ pc.1.set :=
  View.cover_of_tiled [⟨r0_22, p0⟩] S2048x32.size (by rfl) y

/-- What the body of call 0 leaves in output window 10, as a function of the input blocks. -/
def out0_10 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : Vec F S8x128 .f32 :=
  View.canon [⟨r0_1, k0_pay3 (View.ld x0 r0_0)⟩]

/-- The store into output window 10 fills the whole block. -/
theorem cover0_10 (p0 : Vec F S8x128 .f32) (y : S8x128.Idx) :
    ∃ pc ∈ ([⟨r0_1, p0⟩] : List (View.Piece (Elt F) S8x128 .f32)), y ∈ pc.1.set :=
  View.cover_of_tiled [⟨r0_1, p0⟩] S8x128.size (by rfl) y

set_option maxHeartbeats 1000000 in
/-- The body of call 0, run on whole blocks, returns them unchanged and leaves the outputs at the stated functions of them. -/
theorem sound_kernel0 (c : Dev nD) (E : Set ℕ) (i : grid0.Coords) (arg1 : Memref sig .tc .vmem S2048x200 .f32) (harg1 : arg1.IsWhole) (arg2 : Memref sig .tc .vmem S2048x200 .f32) (harg2 : arg2.IsWhole) (arg3 : Memref sig .tc .vmem S2048x200 .f32) (harg3 : arg3.IsWhole) (arg4 : Memref sig .tc .vmem S2048x3 .f32) (harg4 : arg4.IsWhole) (arg5 : Memref sig .tc .vmem S16x8 .f32) (harg5 : arg5.IsWhole) (arg6 : Memref sig .tc .vmem S16x8 .f32) (harg6 : arg6.IsWhole) (arg7 : Memref sig .tc .vmem S8x8 .f32) (harg7 : arg7.IsWhole) (arg8 : Memref sig .tc .vmem S8x8 .f32) (harg8 : arg8.IsWhole) (arg9 : Memref sig .tc .vmem S1x32 .f32) (harg9 : arg9.IsWhole) (arg10 : Memref sig .tc .vmem S2048x32 .f32) (harg10 : arg10.IsWhole) (arg11 : Memref sig .tc .vmem S8x128 .f32) (harg11 : arg11.IsWhole)
    (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8)) -∗ K ⟨⟩))
      ⊢ wp frame (wpE (defs₀ (F := F)) Variants.none c none) E (cc0__body_fast i arg1 harg1 arg2 harg2 arg3 harg3 arg4 harg4 arg5 harg5 arg6 harg6 arg7 harg7 arg8 harg8 arg9 harg9 arg10 harg10 arg11 harg11) K := by
  simp only [cc0__body_fast_eq_skeleton]; unfold cc0__body_fast_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _)).trans ?_
  rfl

/-- The proof data of call 0: the arrays at entry, and each window after the body. -/
def dat0 (c : Dev nD) : Dat τ (Elt F) Unit ℕ (UU) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- Window 0 of call 0 after the body. -/
theorem after0_0 (c : Dev nD) (t : Fin cfg0.N) : (dat0 V c).after 0 t = iblk0 V c 0 t := by dsimp only [dat0]
/-- Window 1 of call 0 after the body. -/
theorem after0_1 (c : Dev nD) (t : Fin cfg0.N) : (dat0 V c).after 1 t = iblk0 V c 1 t := by dsimp only [dat0]
/-- Window 2 of call 0 after the body. -/
theorem after0_2 (c : Dev nD) (t : Fin cfg0.N) : (dat0 V c).after 2 t = iblk0 V c 2 t := by dsimp only [dat0]
/-- Window 3 of call 0 after the body. -/
theorem after0_3 (c : Dev nD) (t : Fin cfg0.N) : (dat0 V c).after 3 t = iblk0 V c 3 t := by dsimp only [dat0]
/-- Window 4 of call 0 after the body. -/
theorem after0_4 (c : Dev nD) (t : Fin cfg0.N) : (dat0 V c).after 4 t = iblk0 V c 4 t := by dsimp only [dat0]
/-- Window 5 of call 0 after the body. -/
theorem after0_5 (c : Dev nD) (t : Fin cfg0.N) : (dat0 V c).after 5 t = iblk0 V c 5 t := by dsimp only [dat0]
/-- Window 6 of call 0 after the body. -/
theorem after0_6 (c : Dev nD) (t : Fin cfg0.N) : (dat0 V c).after 6 t = iblk0 V c 6 t := by dsimp only [dat0]
/-- Window 7 of call 0 after the body. -/
theorem after0_7 (c : Dev nD) (t : Fin cfg0.N) : (dat0 V c).after 7 t = iblk0 V c 7 t := by dsimp only [dat0]
/-- Window 8 of call 0 after the body. -/
theorem after0_8 (c : Dev nD) (t : Fin cfg0.N) : (dat0 V c).after 8 t = iblk0 V c 8 t := by dsimp only [dat0]
/-- Window 9 of call 0 after the body. -/
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
/-- Window 10 of call 0 after the body. -/
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Window 0 of call 0 before the body. -/
theorem before0_0 (c : Dev nD) (t : Fin cfg0.N) (d) : (dat0 V c).before 0 t d = iblk0 V c 0 t :=
  before0_0_of V (dat0 V c) (A_eq0 V c 0) (after0_0 V c) t d
/-- Window 1 of call 0 before the body. -/
theorem before0_1 (c : Dev nD) (t : Fin cfg0.N) (d) : (dat0 V c).before 1 t d = iblk0 V c 1 t :=
  before0_1_of V (dat0 V c) (A_eq0 V c 1) (after0_1 V c) t d
/-- Window 2 of call 0 before the body. -/
theorem before0_2 (c : Dev nD) (t : Fin cfg0.N) (d) : (dat0 V c).before 2 t d = iblk0 V c 2 t :=
  before0_2_of V (dat0 V c) (A_eq0 V c 2) (after0_2 V c) t d
/-- Window 3 of call 0 before the body. -/
theorem before0_3 (c : Dev nD) (t : Fin cfg0.N) (d) : (dat0 V c).before 3 t d = iblk0 V c 3 t :=
  before0_3_of V (dat0 V c) (A_eq0 V c 3) (after0_3 V c) t d
/-- Window 4 of call 0 before the body. -/
theorem before0_4 (c : Dev nD) (t : Fin cfg0.N) (d) : (dat0 V c).before 4 t d = iblk0 V c 4 t :=
  before0_4_of V (dat0 V c) (A_eq0 V c 4) (after0_4 V c) t d
/-- Window 5 of call 0 before the body. -/
theorem before0_5 (c : Dev nD) (t : Fin cfg0.N) (d) : (dat0 V c).before 5 t d = iblk0 V c 5 t :=
  before0_5_of V (dat0 V c) (A_eq0 V c 5) (after0_5 V c) t d
/-- Window 6 of call 0 before the body. -/
theorem before0_6 (c : Dev nD) (t : Fin cfg0.N) (d) : (dat0 V c).before 6 t d = iblk0 V c 6 t :=
  before0_6_of V (dat0 V c) (A_eq0 V c 6) (after0_6 V c) t d
/-- Window 7 of call 0 before the body. -/
theorem before0_7 (c : Dev nD) (t : Fin cfg0.N) (d) : (dat0 V c).before 7 t d = iblk0 V c 7 t :=
  before0_7_of V (dat0 V c) (A_eq0 V c 7) (after0_7 V c) t d
/-- Window 8 of call 0 before the body. -/
theorem before0_8 (c : Dev nD) (t : Fin cfg0.N) (d) : (dat0 V c).before 8 t d = iblk0 V c 8 t :=
  before0_8_of V (dat0 V c) (A_eq0 V c 8) (after0_8 V c) t d

/-- What the body of call 0 starts from. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- What the body of call 0 returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body of call 0 at a grid point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body that the table holds for call 0 is the printed one. -/
theorem defs₀_row0 (t : Fin cfg0.N) :
    defs₀ (F := F) .tc cfg0.body (cfg0.bodyArgs t (cfg0.slots t)) = bodyAt0 t := by
  unfold defs₀; rw [Defs.onTc_tc]

/-- The body of call 0 meets its obligation at every grid point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Proof.KI
-- ==== Proof.FastCounts.lean ====
module

public import proofs.«01_k».proof.Proof.Named
public import proofs.«01_k».proof.Proof.Counts
public import proofs.«01_k».proof.Proof.Floats
public import proofs.«01_k».proof.Proof.KernelIdeal.Fast
public import Idealize.ShloMosaic.Lib.Pointwise

@[expose] public section

noncomputable section

namespace Cert.Proof.KI

open Cert.KernelIdeal Cert.KernelIdeal.Gen Idealize.ShloMosaic
open Cert.Proof.Spec Cert.Proof.Counts Cert.Proof.Digits Cert.Proof.Floats

/-- No entry of the row is infinite. -/
abbrev Finite (x : Row) : Prop := ∀ l, x l ≠ ⊥ ∧ x l ≠ ⊤

/-- Row `r` of a block. -/
abbrev rowOf {n : ℕ} (x : Vec Ideal ⟨2, ![n, 200]⟩ .f32) (r : Fin n) : Row := fun l => x (ix2 r l)

variable (x : Vec Ideal S2048x200 .f32) (r : Fin 2048) (hx : Finite (rowOf x r))

include hx in
/-- The block's integer parts. -/
theorem int_part (l : Fin 200) : k0_pay2 x (ix2 r l) = (((mag (x (ix2 r l)) : ℕ) : ℝ) : EReal) := by
  pointwise [k0_pay2]
  exact floor_abs _ (hx l).1 (hx l).2

include hx in
/-- The packed counts of the digits 0, 1 and 2. -/
theorem packed0 : k0_pay4 x (ix2 r 0) = (((tally (· = 0) (rowOf x r) + 256 * tally (· = 1) (rowOf x r) + 65536 * tally (· = 2) (rowOf x r) : ℕ) : ℝ) : EReal) := by
  pointwise [k0_pay4]
  refine packed (rowOf x r) 0 _ fun l => ?_
  simp only [int_part x r hx, f2, f256, f65536, EReal.coe_eq_coe_iff, EReal.coe_eq_zero, EReal.coe_eq_one, Nat.cast_eq_zero, Nat.cast_eq_one, (nat_num · 2)]

include hx in
/-- The count of the digit 2. -/
theorem count2 : k0_pay5 x (ix2 r 0) = ((tally (· = 2) (rowOf x r) : ℝ) : EReal) := by
  pointwise [k0_pay5]
  rw [packed0 x r hx, f1_65536]
  exact unpack2 _ _ _ (tally_le _ _) (tally_le _ _)

include hx in
/-- The packed counts without the last. -/
theorem rest0 : k0_pay6 x (ix2 r 0) = (((tally (· = 0) (rowOf x r) + 256 * tally (· = 1) (rowOf x r) : ℕ) : ℝ) : EReal) := by
  pointwise [k0_pay6]
  rw [packed0 x r hx, count2 x r hx, f65536]
  exact rest2 _ _ _

include hx in
/-- The count of the digit 1. -/
theorem count1 : k0_pay7 x (ix2 r 0) = ((tally (· = 1) (rowOf x r) : ℝ) : EReal) := by
  pointwise [k0_pay7]
  rw [rest0 x r hx, f1_256]
  exact unpack1 _ _ (tally_le _ _)

include hx in
/-- The count of the digit 0. -/
theorem count0 : k0_pay8 x (ix2 r 0) = ((tally (· = 0) (rowOf x r) : ℝ) : EReal) := by
  pointwise [k0_pay8]
  rw [rest0 x r hx, count1 x r hx, f256]
  exact rest1 _ _

include hx in
/-- The packed counts of the digits 3, 4 and 5. -/
theorem packed3 : k0_pay11 (k0_pay2 x) (k0_pay9 x) (k0_pay10 (F := Ideal)) (ix2 r 0) = (((tally (· = 3) (rowOf x r) + 256 * tally (· = 4) (rowOf x r) + 65536 * tally (· = 5) (rowOf x r) : ℕ) : ℝ) : EReal) := by
  pointwise [k0_pay11, k0_pay9, k0_pay10]
  refine packed (rowOf x r) 3 _ fun l => ?_
  simp only [int_part x r hx, f3, f4, f5, f256, f65536, EReal.coe_eq_coe_iff, EReal.coe_eq_zero, EReal.coe_eq_one, Nat.cast_eq_zero, Nat.cast_eq_one, (nat_num · 3), (nat_num · 4), (nat_num · 5)]

include hx in
/-- The count of the digit 5. -/
theorem count5 : k0_pay12 (k0_pay2 x) (k0_pay9 x) (k0_pay10 (F := Ideal)) (ix2 r 0) = ((tally (· = 5) (rowOf x r) : ℝ) : EReal) := by
  pointwise [k0_pay12]
  rw [packed3 x r hx, f1_65536]
  exact unpack2 _ _ _ (tally_le _ _) (tally_le _ _)

include hx in
/-- The packed counts without the last. -/
theorem rest3 : k0_pay13 (k0_pay2 x) (k0_pay9 x) (k0_pay10 (F := Ideal)) (ix2 r 0) = (((tally (· = 3) (rowOf x r) + 256 * tally (· = 4) (rowOf x r) : ℕ) : ℝ) : EReal) := by
  pointwise [k0_pay13]
  rw [packed3 x r hx, count5 x r hx, f65536]
  exact rest2 _ _ _

include hx in
/-- The count of the digit 4. -/
theorem count4 : k0_pay14 (k0_pay2 x) (k0_pay9 x) (k0_pay10 (F := Ideal)) (ix2 r 0) = ((tally (· = 4) (rowOf x r) : ℝ) : EReal) := by
  pointwise [k0_pay14]
  rw [rest3 x r hx, f1_256]
  exact unpack1 _ _ (tally_le _ _)

include hx in
/-- The count of the digit 3. -/
theorem count3 : k0_pay15 (k0_pay2 x) (k0_pay9 x) (k0_pay10 (F := Ideal)) (ix2 r 0) = ((tally (· = 3) (rowOf x r) : ℝ) : EReal) := by
  pointwise [k0_pay15]
  rw [rest3 x r hx, count4 x r hx, f256]
  exact rest1 _ _

include hx in
/-- The packed counts of the digits 6, 7 and 8. -/
theorem packed6 : k0_pay16 (k0_pay2 x) (ix2 r 0) = (((tally (· = 6) (rowOf x r) + 256 * tally (· = 7) (rowOf x r) + 65536 * tally (· = 8) (rowOf x r) : ℕ) : ℝ) : EReal) := by
  pointwise [k0_pay16]
  refine packed (rowOf x r) 6 _ fun l => ?_
  simp only [int_part x r hx, f6, f7, f8, f256, f65536, EReal.coe_eq_coe_iff, EReal.coe_eq_zero, EReal.coe_eq_one, Nat.cast_eq_zero, Nat.cast_eq_one, (nat_num · 6), (nat_num · 7), (nat_num · 8)]

include hx in
/-- The count of the digit 8. -/
theorem count8 : k0_pay18 (k0_pay17 (k0_pay2 x)) (ix2 r 0) = ((tally (· = 8) (rowOf x r) : ℝ) : EReal) := by
  pointwise [k0_pay18, k0_pay17]
  rw [packed6 x r hx, f1_65536]
  exact unpack2 _ _ _ (tally_le _ _) (tally_le _ _)

include hx in
/-- The packed counts without the last. -/
theorem rest6 : k0_pay19 (k0_pay16 (k0_pay2 x)) (k0_pay17 (k0_pay2 x)) (ix2 r 0) = (((tally (· = 6) (rowOf x r) + 256 * tally (· = 7) (rowOf x r) : ℕ) : ℝ) : EReal) := by
  pointwise [k0_pay19]
  rw [packed6 x r hx, count8 x r hx, f65536]
  exact rest2 _ _ _

include hx in
/-- The count of the digit 7. -/
theorem count7 : k0_pay20 (k0_pay16 (k0_pay2 x)) (k0_pay17 (k0_pay2 x)) (ix2 r 0) = ((tally (· = 7) (rowOf x r) : ℝ) : EReal) := by
  pointwise [k0_pay20]
  rw [rest6 x r hx, f1_256]
  exact unpack1 _ _ (tally_le _ _)

include hx in
/-- The count of the digit 6. -/
theorem count6 : k0_pay21 (k0_pay16 (k0_pay2 x)) (k0_pay17 (k0_pay2 x)) (ix2 r 0) = ((tally (· = 6) (rowOf x r) : ℝ) : EReal) := by
  pointwise [k0_pay21]
  rw [rest6 x r hx, count7 x r hx, f256]
  exact rest1 _ _

/-- A flag widened and read as a number. -/
theorem flag (q : Prop) [Decidable q] :
    FloatOps.sitofp (F := Ideal) FTy.f32 (BitVec.setWidth 32 (BitVec.ofBool (decide q))) = if q then 1 else 0 := by
  by_cases h : q
  · rw [if_pos h, decide_eq_true h]
    show (((BitVec.setWidth 32 (BitVec.ofBool true)).toInt : ℝ) : EReal) = 1
    simp
  · rw [if_neg h, decide_eq_false h]
    show (((BitVec.setWidth 32 (BitVec.ofBool false)).toInt : ℝ) : EReal) = 0
    simp

include hx in
/-- The count of the digit 9. -/
theorem count9 : k0_pay22 (k0_pay2 x) (ix2 r 0) = ((tally (· = 9) (rowOf x r) : ℝ) : EReal) := by
  pointwise [k0_pay22]
  refine sum_indicator_ideal (· = 9) (rowOf x r) _ fun l => ?_
  simp only [flag, int_part x r hx, f9, EReal.coe_eq_coe_iff, (nat_num · 9)]

end Cert.Proof.KI
-- ==== Proof.KernelIdeal.General.lean ====
module

public import proofs.«01_k».proof.Proof.KernelIdeal.Fast

@[expose] public section

-- a rectangle of 2048 rows is checked coordinate by coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf CSeg CaseSeg Ticket)

variable {F : FTy → Type} [FloatOps F] [Named F]

local notation "𝕄" => MT nD τ sig Unit (Elt F) ℕ UU ℕ

/-! # The second call: the counts of any digits

The blocks of the second pallas_call, its body run over them, and the obligation that the pipeline asks of it. -/

variable (V : (c : Dev nD) → (b : Ref sig .tc) → Buf (Elt F) ((c : Thread nD τ).loc b))

/-- The block of window w at grid point t, read from its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of call 1 stages its block at every grid point, whatever the proof data with these arrays. -/
theorem before1_0_of {c : Dev nD} (dat : Dat τ (Elt F) Unit ℕ (UU) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of call 1 stages its block at every grid point, whatever the proof data with these arrays. -/
theorem before1_1_of {c : Dev nD} (dat : Dat τ (Elt F) Unit ℕ (UU) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of call 1 stages its block at every grid point, whatever the proof data with these arrays. -/
theorem before1_2_of {c : Dev nD} (dat : Dat τ (Elt F) Unit ℕ (UU) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of call 1 stages its block at every grid point, whatever the proof data with these arrays. -/
theorem before1_3_of {c : Dev nD} (dat : Dat τ (Elt F) Unit ℕ (UU) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of call 1 stages its block at every grid point, whatever the proof data with these arrays. -/
theorem before1_4_of {c : Dev nD} (dat : Dat τ (Elt F) Unit ℕ (UU) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5 of call 1 stages its block at every grid point, whatever the proof data with these arrays. -/
theorem before1_5_of {c : Dev nD} (dat : Dat τ (Elt F) Unit ℕ (UU) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6 of call 1 stages its block at every grid point, whatever the proof data with these arrays. -/
theorem before1_6_of {c : Dev nD} (dat : Dat τ (Elt F) Unit ℕ (UU) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7 of call 1 stages its block at every grid point, whatever the proof data with these arrays. -/
theorem before1_7_of {c : Dev nD} (dat : Dat τ (Elt F) Unit ℕ (UU) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8 of call 1 stages its block at every grid point, whatever the proof data with these arrays. -/
theorem before1_8_of {c : Dev nD} (dat : Dat τ (Elt F) Unit ℕ (UU) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S2048x200 := Rect.unit (s := S2048x200) ![0, 0] S2048x200.size inb_S2048x200_S2048x200_0_0
abbrev r1_1 : Rect S16x8 := Rect.unit (s := S16x8) ![0, 0] S1x8.size inb_S16x8_S1x8_0_0
abbrev r1_2 : Rect S16x8 := Rect.unit (s := S16x8) ![1, 0] S1x8.size inb_S16x8_S1x8_1_0
abbrev r1_3 : Rect S16x8 := Rect.unit (s := S16x8) ![2, 0] S1x8.size inb_S16x8_S1x8_2_0
abbrev r1_4 : Rect S16x8 := Rect.unit (s := S16x8) ![3, 0] S1x8.size inb_S16x8_S1x8_3_0
abbrev r1_5 : Rect S16x8 := Rect.unit (s := S16x8) ![4, 0] S1x8.size inb_S16x8_S1x8_4_0
abbrev r1_6 : Rect S16x8 := Rect.unit (s := S16x8) ![5, 0] S1x8.size inb_S16x8_S1x8_5_0
abbrev r1_7 : Rect S16x8 := Rect.unit (s := S16x8) ![6, 0] S1x8.size inb_S16x8_S1x8_6_0
abbrev r1_8 : Rect S16x8 := Rect.unit (s := S16x8) ![7, 0] S1x8.size inb_S16x8_S1x8_7_0
abbrev r1_9 : Rect S16x8 := Rect.unit (s := S16x8) ![8, 0] S1x8.size inb_S16x8_S1x8_8_0
abbrev r1_10 : Rect S16x8 := Rect.unit (s := S16x8) ![9, 0] S1x8.size inb_S16x8_S1x8_9_0
abbrev r1_11 : Rect S8x8 := Rect.unit (s := S8x8) ![0, 0] S1x8.size inb_S8x8_S1x8_0_0
abbrev r1_12 : Rect S8x8 := Rect.unit (s := S8x8) ![1, 0] S1x8.size inb_S8x8_S1x8_1_0
abbrev r1_13 : Rect S8x8 := Rect.unit (s := S8x8) ![2, 0] S1x8.size inb_S8x8_S1x8_2_0
abbrev r1_14 : Rect S8x8 := Rect.unit (s := S8x8) ![3, 0] S1x8.size inb_S8x8_S1x8_3_0
abbrev r1_15 : Rect S2048x3 := Rect.unit (s := S2048x3) ![0, 0] S2048x1.size inb_S2048x3_S2048x1_0_0
abbrev r1_16 : Rect S2048x3 := Rect.unit (s := S2048x3) ![0, 1] S2048x1.size inb_S2048x3_S2048x1_0_1
abbrev r1_17 : Rect S2048x3 := Rect.unit (s := S2048x3) ![0, 2] S2048x1.size inb_S2048x3_S2048x1_0_2
abbrev r1_18 : Rect S8x8 := Rect.unit (s := S8x8) ![4, 0] S1x8.size inb_S8x8_S1x8_4_0
abbrev r1_19 : Rect S8x8 := Rect.unit (s := S8x8) ![5, 0] S1x8.size inb_S8x8_S1x8_5_0
abbrev r1_20 : Rect S1x32 := Rect.unit (s := S1x32) ![0, 0] S1x32.size inb_S1x32_S1x32_0_0
abbrev r1_21 : Rect S2048x32 := Rect.unit (s := S2048x32) ![0, 0] S2048x32.size inb_S2048x32_S2048x32_0_0

/-- A value that the body of call 1 uses more than once. -/
def k1_pay45 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k1_pay3 (View.ld x0 r1_0) -- `v4`
/-- A value that the body of call 1 uses more than once. -/
def k1_pay46 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k1_pay4 (View.ld x0 r1_0) -- `v37`
/-- A value that the body of call 1 uses more than once. -/
def k1_pay47 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k1_pay6 (k1_pay45 x0 x1 x2 x3 x4 x5 x6 x7 x8) (k1_pay46 x0 x1 x2 x3 x4 x5 x6 x7 x8) (Scalar.ofBits .f32 0x4E6E6B28#32) -- `v84`
/-- A value that the body of call 1 uses more than once. -/
def k1_pay48 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : IVec S2048x200 1 :=
  k1_pay7 (k1_pay45 x0 x1 x2 x3 x4 x5 x6 x7 x8) (k1_pay46 x0 x1 x2 x3 x4 x5 x6 x7 x8) (Scalar.ofBits .f32 0x4E6E6B28#32) -- `v87`
/-- A value that the body of call 1 uses more than once. -/
def k1_pay49 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k1_pay8 (k1_pay47 x0 x1 x2 x3 x4 x5 x6 x7 x8) (k1_pay48 x0 x1 x2 x3 x4 x5 x6 x7 x8) -- `v90`
/-- A value that the body of call 1 uses more than once. -/
def k1_pay50 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x200 .f32 :=
  k1_pay9 (k1_pay2 (View.ld x0 r1_0)) -- `v96`
/-- A value that the body of call 1 uses more than once. -/
def k1_pay51 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : FVec F S2048x1 .f32 :=
  k1_pay39 (View.ld x1 r1_0) -- `v438`

/-- What the body of call 1 leaves in output window 9, as a function of the input blocks. -/
def out1_9 (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) : Vec F S2048x32 .f32 :=
  View.canon [⟨r1_21, k1_pay1 (k1_pay32 (k1_pay15 (k1_pay47 x0 x1 x2 x3 x4 x5 x6 x7 x8) (k1_pay48 x0 x1 x2 x3 x4 x5 x6 x7 x8)) (k1_pay16 (k1_pay49 x0 x1 x2 x3 x4 x5 x6 x7 x8) (Scalar.ofBits .f32 0x40E00000#32)) (k1_pay17 (k1_pay49 x0 x1 x2 x3 x4 x5 x6 x7 x8)) (k1_pay18 (k1_pay49 x0 x1 x2 x3 x4 x5 x6 x7 x8)) (k1_pay31 (k1_pay11 (k1_pay47 x0 x1 x2 x3 x4 x5 x6 x7 x8) (k1_pay48 x0 x1 x2 x3 x4 x5 x6 x7 x8)) (k1_pay12 (k1_pay47 x0 x1 x2 x3 x4 x5 x6 x7 x8) (k1_pay48 x0 x1 x2 x3 x4 x5 x6 x7 x8)) (k1_pay13 (k1_pay47 x0 x1 x2 x3 x4 x5 x6 x7 x8) (k1_pay48 x0 x1 x2 x3 x4 x5 x6 x7 x8)) (k1_pay14 (k1_pay47 x0 x1 x2 x3 x4 x5 x6 x7 x8) (k1_pay48 x0 x1 x2 x3 x4 x5 x6 x7 x8)) (k1_pay30 (k1_pay10 (k1_pay47 x0 x1 x2 x3 x4 x5 x6 x7 x8) (k1_pay48 x0 x1 x2 x3 x4 x5 x6 x7 x8)) (View.ld x4 r1_1)) (View.ld x4 r1_2) (View.ld x4 r1_3) (View.ld x4 r1_4) (View.ld x4 r1_5)) (View.ld x4 r1_6) (View.ld x4 r1_7) (View.ld x4 r1_8) (View.ld x4 r1_9)) (k1_pay35 (k1_pay26 (k1_pay50 x0 x1 x2 x3 x4 x5 x6 x7 x8)) (k1_pay27 (k1_pay50 x0 x1 x2 x3 x4 x5 x6 x7 x8)) (k1_pay28 (k1_pay50 x0 x1 x2 x3 x4 x5 x6 x7 x8)) (k1_pay29 (k1_pay50 x0 x1 x2 x3 x4 x5 x6 x7 x8)) (k1_pay33 (k1_pay19 (k1_pay50 x0 x1 x2 x3 x4 x5 x6 x7 x8)) (k1_pay20 (k1_pay50 x0 x1 x2 x3 x4 x5 x6 x7 x8)) (k1_pay21 (k1_pay50 x0 x1 x2 x3 x4 x5 x6 x7 x8)) (k1_pay22 (k1_pay50 x0 x1 x2 x3 x4 x5 x6 x7 x8)) (k1_pay24 (k1_pay23 (k1_pay50 x0 x1 x2 x3 x4 x5 x6 x7 x8))) (View.ld x5 r1_1) (View.ld x5 r1_2) (View.ld x5 r1_3) (View.ld x5 r1_4) (View.ld x5 r1_5)) (k1_pay34 (k1_pay25 (k1_pay50 x0 x1 x2 x3 x4 x5 x6 x7 x8))) (View.ld x5 r1_6) (View.ld x5 r1_7) (View.ld x5 r1_8) (View.ld x5 r1_9) (View.ld x5 r1_10)) (k1_pay38 (View.ld x2 r1_0) (k1_pay36 (View.ld x2 r1_0)) (k1_pay37 (View.ld x2 r1_0)) (View.ld x6 r1_11) (View.ld x6 r1_12) (View.ld x6 r1_13) (View.ld x6 r1_14)) (k1_pay51 x0 x1 x2 x3 x4 x5 x6 x7 x8) (k1_pay41 (View.ld x1 r1_0) (k1_pay51 x0 x1 x2 x3 x4 x5 x6 x7 x8)) (k1_pay42 (View.ld x3 r1_15) (View.ld x3 r1_16) (View.ld x3 r1_17) (View.ld x7 r1_11) (View.ld x7 r1_12) (View.ld x7 r1_13)) (k1_pay43 (k1_pay51 x0 x1 x2 x3 x4 x5 x6 x7 x8)) (k1_pay44 (View.ld x7 r1_14)) (View.ld x7 r1_18) (View.ld x7 r1_19) (View.ld x8 r1_20)⟩]

/-- The store into output window 9 fills the whole block. -/
theorem cover1_9 (p0 : Vec F S2048x32 .f32) (y : S2048x32.Idx) :
    ∃ pc ∈ ([⟨r1_21, p0⟩] : List (View.Piece (Elt F) S2048x32 .f32)), y ∈ pc.1.set :=
  View.cover_of_tiled [⟨r1_21, p0⟩] S2048x32.size (by rfl) y

set_option maxHeartbeats 1000000 in
/-- The body of call 1, run on whole blocks, returns them unchanged and leaves the outputs at the stated functions of them. -/
theorem sound_kernel1 (c : Dev nD) (E : Set ℕ) (i : grid1.Coords) (arg1 : Memref sig .tc .vmem S2048x200 .f32) (harg1 : arg1.IsWhole) (arg2 : Memref sig .tc .vmem S2048x200 .f32) (harg2 : arg2.IsWhole) (arg3 : Memref sig .tc .vmem S2048x200 .f32) (harg3 : arg3.IsWhole) (arg4 : Memref sig .tc .vmem S2048x3 .f32) (harg4 : arg4.IsWhole) (arg5 : Memref sig .tc .vmem S16x8 .f32) (harg5 : arg5.IsWhole) (arg6 : Memref sig .tc .vmem S16x8 .f32) (harg6 : arg6.IsWhole) (arg7 : Memref sig .tc .vmem S8x8 .f32) (harg7 : arg7.IsWhole) (arg8 : Memref sig .tc .vmem S8x8 .f32) (harg8 : arg8.IsWhole) (arg9 : Memref sig .tc .vmem S1x32 .f32) (harg9 : arg9.IsWhole) (arg10 : Memref sig .tc .vmem S2048x32 .f32) (harg10 : arg10.IsWhole)
    (x0 : Vec F S2048x200 .f32) (x1 : Vec F S2048x200 .f32) (x2 : Vec F S2048x200 .f32) (x3 : Vec F S2048x3 .f32) (x4 : Vec F S16x8 .f32) (x5 : Vec F S16x8 .f32) (x6 : Vec F S8x8 .f32) (x7 : Vec F S8x8 .f32) (x8 : Vec F S1x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out1_9 x0 x1 x2 x3 x4 x5 x6 x7 x8)) -∗ K ⟨⟩))
      ⊢ wp frame (wpE (defs₀ (F := F)) Variants.none c none) E (cc1__body_general i arg1 harg1 arg2 harg2 arg3 harg3 arg4 harg4 arg5 harg5 arg6 harg6 arg7 harg7 arg8 harg8 arg9 harg9 arg10 harg10) K := by
  simp only [cc1__body_general_eq_skeleton]; unfold cc1__body_general_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  refine (View.read_writes_eq_canon _ _ _ (cover1_9 _)).trans ?_
  rfl

/-- The proof data of call 1: the arrays at entry, and each window after the body. -/
def dat1 (c : Dev nD) : Dat τ (Elt F) Unit ℕ (UU) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- Window 0 of call 1 after the body. -/
theorem after1_0 (c : Dev nD) (t : Fin cfg1.N) : (dat1 V c).after 0 t = iblk1 V c 0 t := by dsimp only [dat1]
/-- Window 1 of call 1 after the body. -/
theorem after1_1 (c : Dev nD) (t : Fin cfg1.N) : (dat1 V c).after 1 t = iblk1 V c 1 t := by dsimp only [dat1]
/-- Window 2 of call 1 after the body. -/
theorem after1_2 (c : Dev nD) (t : Fin cfg1.N) : (dat1 V c).after 2 t = iblk1 V c 2 t := by dsimp only [dat1]
/-- Window 3 of call 1 after the body. -/
theorem after1_3 (c : Dev nD) (t : Fin cfg1.N) : (dat1 V c).after 3 t = iblk1 V c 3 t := by dsimp only [dat1]
/-- Window 4 of call 1 after the body. -/
theorem after1_4 (c : Dev nD) (t : Fin cfg1.N) : (dat1 V c).after 4 t = iblk1 V c 4 t := by dsimp only [dat1]
/-- Window 5 of call 1 after the body. -/
theorem after1_5 (c : Dev nD) (t : Fin cfg1.N) : (dat1 V c).after 5 t = iblk1 V c 5 t := by dsimp only [dat1]
/-- Window 6 of call 1 after the body. -/
theorem after1_6 (c : Dev nD) (t : Fin cfg1.N) : (dat1 V c).after 6 t = iblk1 V c 6 t := by dsimp only [dat1]
/-- Window 7 of call 1 after the body. -/
theorem after1_7 (c : Dev nD) (t : Fin cfg1.N) : (dat1 V c).after 7 t = iblk1 V c 7 t := by dsimp only [dat1]
/-- Window 8 of call 1 after the body. -/
theorem after1_8 (c : Dev nD) (t : Fin cfg1.N) : (dat1 V c).after 8 t = iblk1 V c 8 t := by dsimp only [dat1]
/-- Window 9 of call 1 after the body. -/
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Window 0 of call 1 before the body. -/
theorem before1_0 (c : Dev nD) (t : Fin cfg1.N) (d) : (dat1 V c).before 0 t d = iblk1 V c 0 t :=
  before1_0_of V (dat1 V c) (A_eq1 V c 0) (after1_0 V c) t d
/-- Window 1 of call 1 before the body. -/
theorem before1_1 (c : Dev nD) (t : Fin cfg1.N) (d) : (dat1 V c).before 1 t d = iblk1 V c 1 t :=
  before1_1_of V (dat1 V c) (A_eq1 V c 1) (after1_1 V c) t d
/-- Window 2 of call 1 before the body. -/
theorem before1_2 (c : Dev nD) (t : Fin cfg1.N) (d) : (dat1 V c).before 2 t d = iblk1 V c 2 t :=
  before1_2_of V (dat1 V c) (A_eq1 V c 2) (after1_2 V c) t d
/-- Window 3 of call 1 before the body. -/
theorem before1_3 (c : Dev nD) (t : Fin cfg1.N) (d) : (dat1 V c).before 3 t d = iblk1 V c 3 t :=
  before1_3_of V (dat1 V c) (A_eq1 V c 3) (after1_3 V c) t d
/-- Window 4 of call 1 before the body. -/
theorem before1_4 (c : Dev nD) (t : Fin cfg1.N) (d) : (dat1 V c).before 4 t d = iblk1 V c 4 t :=
  before1_4_of V (dat1 V c) (A_eq1 V c 4) (after1_4 V c) t d
/-- Window 5 of call 1 before the body. -/
theorem before1_5 (c : Dev nD) (t : Fin cfg1.N) (d) : (dat1 V c).before 5 t d = iblk1 V c 5 t :=
  before1_5_of V (dat1 V c) (A_eq1 V c 5) (after1_5 V c) t d
/-- Window 6 of call 1 before the body. -/
theorem before1_6 (c : Dev nD) (t : Fin cfg1.N) (d) : (dat1 V c).before 6 t d = iblk1 V c 6 t :=
  before1_6_of V (dat1 V c) (A_eq1 V c 6) (after1_6 V c) t d
/-- Window 7 of call 1 before the body. -/
theorem before1_7 (c : Dev nD) (t : Fin cfg1.N) (d) : (dat1 V c).before 7 t d = iblk1 V c 7 t :=
  before1_7_of V (dat1 V c) (A_eq1 V c 7) (after1_7 V c) t d
/-- Window 8 of call 1 before the body. -/
theorem before1_8 (c : Dev nD) (t : Fin cfg1.N) (d) : (dat1 V c).before 8 t d = iblk1 V c 8 t :=
  before1_8_of V (dat1 V c) (A_eq1 V c 8) (after1_8 V c) t d

/-- What the body of call 1 starts from. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- What the body of call 1 returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

/-- The body of call 1 at a grid point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ (grid1.coords t) _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body that the table holds for call 1 is the printed one. -/
theorem defs₀_row1 (t : Fin cfg1.N) :
    defs₀ (F := F) .tc cfg1.body (cfg1.bodyArgs t (cfg1.slots t)) = bodyAt1 t := by
  unfold defs₀; rw [Defs.onTc_tc]

/-- The body of call 1 meets its obligation at every grid point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.Proof.KI
-- ==== Proof.FastBlock.lean ====
module

public import proofs.«01_k».proof.Proof.FastCounts
public import Idealize.ShloMosaic.Lib.Pipeline.ValueKit.Basic

@[expose] public section

noncomputable section

namespace Cert.Proof.KI

open Cert.KernelIdeal Cert.KernelIdeal.Gen Idealize.ShloMosaic
open Cert.Proof.Spec Cert.Proof.Counts Cert.Proof.Floats

/-- The magnitude of a number is the greater of it and its negation. -/
theorem abs_max (x : EReal) : FloatOps.absf (F := Ideal) (φ := .f32) x = max x (-x) := rfl

variable (x0 : Vec Ideal S2048x200 .f32) (x1 : Vec Ideal S2048x200 .f32) (x2 : Vec Ideal S2048x200 .f32) (x3 : Vec Ideal S2048x3 .f32)
  (x4 : Vec Ideal S16x8 .f32) (x5 : Vec Ideal S16x8 .f32) (x6 : Vec Ideal S8x8 .f32) (x7 : Vec Ideal S8x8 .f32) (x8 : Vec Ideal S1x32 .f32)

/-- One entry of a block of the result, from the blocks of the operands: row `r`, column `j`. -/
abbrev blockEntry (r : Fin 2048) (j : Fin 32) : EReal :=
  entry (rowOf x0 r) (rowOf x1 r) (rowOf x2 r) (x3 (ix2 r 0)) (x3 (ix2 r 1)) (x3 (ix2 r 2))
    (fun k i => x4 (ix2 (k.castLE (by omega)) i)) (fun k i => x5 (ix2 (k.castLE (by omega)) i))
    (fun k i => x6 (ix2 (k.castLE (by omega)) i)) (fun k i => x7 (ix2 (k.castLE (by omega)) i)) (x8 (ix2 0 j)) j

/-- Reading a whole block returns it. -/
theorem ld_whole (x : Vec Ideal S2048x200 .f32) : View.ld x r0_0 = x :=
  View.ld_unit_lit inb_S2048x200_S2048x200_0_0 x (by decide)

/-- A store of a whole block of the result leaves it. -/
theorem canon_out (p : Vec Ideal S2048x32 .f32) :
    View.canon ([⟨r0_22, p⟩] : List (View.Piece (Elt Ideal) S2048x32 .f32)) = p :=
  View.canon_cons_unit_lit inb_S2048x32_S2048x32_0_0 p [] (by decide)

/-- A store of a whole block of maxima leaves it. -/
theorem canon_max (p : Vec Ideal S8x128 .f32) :
    View.canon ([⟨r0_1, p⟩] : List (View.Piece (Elt Ideal) S8x128 .f32)) = p :=
  View.canon_cons_unit_lit inb_S8x128_S8x128_0_0 p [] (by decide)

/-- With finite prices whose integer parts have one digit, the fast block holds the specified entries. -/
theorem fast_block (r : Fin 2048) (j : Fin 32) (hx : Finite (rowOf x0 r)) (hs : ∀ l, mag (rowOf x0 r l) ≤ 9) :
    out0_9 x0 x1 x2 x3 x4 x5 x6 x7 x8 (ix2 r j) = blockEntry x0 x1 x2 x3 x4 x5 x6 x7 x8 r j := by
  have h2 := count2 x0 r hx
  have h1 := count1 x0 r hx
  have h0 := count0 x0 r hx
  have h5 := count5 x0 r hx
  have h4 := count4 x0 r hx
  have h3 := count3 x0 r hx
  have h8 := count8 x0 r hx
  have h7 := count7 x0 r hx
  have h6 := count6 x0 r hx
  have h9 := count9 x0 r hx
  unfold out0_9
  refine (congrFun (canon_out _) (ix2 r j)).trans ?_
  simp only [k0_pay45, k0_pay46, k0_pay47,k0_pay48,k0_pay49,k0_pay50,k0_pay51,k0_pay52,k0_pay53,k0_pay54,k0_pay55,k0_pay56,k0_pay57,k0_pay58,k0_pay59, ld_whole]
  generalize k0_pay5 x0 = g2 at h2 ⊢
  generalize k0_pay7 x0 = g1 at h1 ⊢
  generalize k0_pay8 x0 = g0 at h0 ⊢
  generalize k0_pay12 (k0_pay2 x0) (k0_pay9 x0) k0_pay10 = g5 at h5 ⊢
  generalize k0_pay14 (k0_pay2 x0) (k0_pay9 x0) k0_pay10 = g4 at h4 ⊢
  generalize k0_pay15 (k0_pay2 x0) (k0_pay9 x0) k0_pay10 = g3 at h3 ⊢
  generalize k0_pay18 (k0_pay17 (k0_pay2 x0)) = g8 at h8 ⊢
  generalize k0_pay20 (k0_pay16 (k0_pay2 x0)) (k0_pay17 (k0_pay2 x0)) = g7 at h7 ⊢
  generalize k0_pay21 (k0_pay16 (k0_pay2 x0)) (k0_pay17 (k0_pay2 x0)) = g6 at h6 ⊢
  generalize k0_pay22 (k0_pay2 x0) = g9 at h9 ⊢
  pointwise [k0_pay1,k0_pay44,k0_pay27,k0_pay25,k0_pay23,k0_pay24,k0_pay26,k0_pay33,k0_pay31,k0_pay28,k0_pay29,k0_pay30,k0_pay32,k0_pay39,k0_pay35,k0_pay34,k0_pay36,k0_pay37,k0_pay38,k0_pay40,k0_pay41,k0_pay42,k0_pay43]
  refine Eq.trans ?_ (entry_eq _ _ _ _ _ _ _ _ _ _ _ _).symm
  have hl : ∀ n m : ℕ, ((n : ℝ) : EReal) + ((m : ℝ) : EReal) = (((n + m : ℕ) : ℝ) : EReal) := fun n m => by
    rw [← EReal.coe_add, Nat.cast_add]
  simp only [abs_max, h0, h1, h2, h3, h4, h5, h6, h7, h8, h9, hl, Named.linv, Named.dinv, Named.e1, Named.e2, Named.e3, Named.e4, Named.e5,
    Named.e6, Named.e7, Named.e8, Named.e9, fTop, fBot, ben, rnd, freq, share1, share2, share3, share4, share5, share6, share7, share8, share9,
    lead_one_small _ hs, lead_many_small _ hs _ (le_refl 2), lead_many_small _ hs 3 (by omega), lead_many_small _ hs 4 (by omega),
    lead_many_small _ hs 5 (by omega), lead_many_small _ hs 6 (by omega), lead_many_small _ hs 7 (by omega), lead_many_small _ hs 8 (by omega),
    lead_many_small _ hs 9 (by omega), last_small _ hs]
  rfl

end Cert.Proof.KI
-- ==== Proof.KernelIdeal.Run.lean ====
module

public import proofs.«01_k».proof.Proof.KernelIdeal.General

@[expose] public section

-- a rectangle of 2048 rows is checked coordinate by coordinate
set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat Cfg Window BodyObligation cellOf CSeg CaseSeg Ticket)

variable {F : FTy → Type} [FloatOps F] [Named F]

local notation "𝕄" => MT nD τ sig Unit (Elt F) ℕ UU ℕ

/-! # What the buffers hold at each point of the program -/

variable (m : (ℓ : Loc nD τ sig) → Buf (Elt F) ℓ) (ρ : Dev nD → PrngReg)

/-- The arguments. -/
abbrev argRefs : List (Ref sig .tc) := [main_arg0, main_arg1, main_arg2, main_arg3, main_arg4, main_arg5, main_arg6, main_arg7, main_arg8, main_arg9, main_arg10, main_arg11, main_arg12, main_arg13]

/-- No operation of `hostOps0` allocates a buffer. -/
theorem hostOps0_fresh : (hostOps0 : List (HloOp τ sig (Elt F))).Forall fun op => op.fresh = ∅ := by
  simp only [List.Forall]; repeat' constructor
/-- The references that `hostOps0` writes, in order. -/
abbrev hostOps0_W : List (Ref sig .tc) := [main_v0, main_v1, main_v2, main_v3, main_v4, main_c]
/-- `hostOps0` writes no other reference. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes no argument. -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The references that `hostOps0_1` writes, in order. -/
abbrev hostOps0_1_W : List (Ref sig .tc) := [main_call0_v0, main_v5]
/-- `hostOps0_1` writes no other reference. -/
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes no argument. -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The references that `hostOps0_2` writes, in order. -/
abbrev hostOps0_2_W : List (Ref sig .tc) := [main_v6, main_c_0]
/-- `hostOps0_2` writes no other reference. -/
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes no argument. -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The references that `hostOps0_3` writes, in order. -/
abbrev hostOps0_3_W : List (Ref sig .tc) := [main_call1_v0, main_v7]
/-- `hostOps0_3` writes no other reference. -/
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes no argument. -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The references that `hostOps0_4` writes, in order. -/
abbrev hostOps0_4_W : List (Ref sig .tc) := [main_v8, main_c_1]
/-- `hostOps0_4` writes no other reference. -/
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes no argument. -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The references that `hostOps0_5` writes, in order. -/
abbrev hostOps0_5_W : List (Ref sig .tc) := [main_call2_v0, main_v9]
/-- `hostOps0_5` writes no other reference. -/
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes no argument. -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The references that `hostOps0_6` writes, in order. -/
abbrev hostOps0_6_W : List (Ref sig .tc) := [main_v10, main_c_2]
/-- `hostOps0_6` writes no other reference. -/
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes no argument. -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The references that `hostOps0_7` writes, in order. -/
abbrev hostOps0_7_W : List (Ref sig .tc) := [main_call3_v0, main_v11]
/-- `hostOps0_7` writes no other reference. -/
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes no argument. -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The references that `hostOps0_8` writes, in order. -/
abbrev hostOps0_8_W : List (Ref sig .tc) := [main_v12, main_v13]
/-- `hostOps0_8` writes no other reference. -/
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes no argument. -/
theorem hostOps0_8_args : ∀ a ∈ argRefs, a ∉ hostOps0_8_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The references that `hostOps1` writes, in order. -/
abbrev hostOps1_W : List (Ref sig .tc) := [main_cst, main_v15, main_cst_3, main_v16]
/-- `hostOps1` writes no other reference. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes no argument. -/
theorem hostOps1_args : ∀ a ∈ argRefs, a ∉ hostOps1_W := ListAll.forall_mem_of_all_decide (by decide +kernel)

/-- The buffers at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- The buffers after `hostOps0`. -/
abbrev W1 : Dev nD → Valuation τ sig (Elt F) := fun c => StableHlo.after hostOps0 (W0 m ρ c)
/-- A reference that `hostOps0` does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments after `hostOps0`. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The buffers after `hostOps0_1`. -/
abbrev W2 : Dev nD → Valuation τ sig (Elt F) := fun c => StableHlo.after hostOps0_1 (W1 m ρ c)
/-- A reference that `hostOps0_1` does not write keeps its contents. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
/-- The arguments after `hostOps0_1`. -/
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The buffers after `hostOps0_2`. -/
abbrev W3 : Dev nD → Valuation τ sig (Elt F) := fun c => StableHlo.after hostOps0_2 (W2 m ρ c)
/-- A reference that `hostOps0_2` does not write keeps its contents. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- The arguments after `hostOps0_2`. -/
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The buffers after `hostOps0_3`. -/
abbrev W4 : Dev nD → Valuation τ sig (Elt F) := fun c => StableHlo.after hostOps0_3 (W3 m ρ c)
/-- A reference that `hostOps0_3` does not write keeps its contents. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
/-- The arguments after `hostOps0_3`. -/
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- The buffers after `hostOps0_4`. -/
abbrev W5 : Dev nD → Valuation τ sig (Elt F) := fun c => StableHlo.after hostOps0_4 (W4 m ρ c)
/-- A reference that `hostOps0_4` does not write keeps its contents. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
/-- The arguments after `hostOps0_4`. -/
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The buffers after `hostOps0_5`. -/
abbrev W6 : Dev nD → Valuation τ sig (Elt F) := fun c => StableHlo.after hostOps0_5 (W5 m ρ c)
/-- A reference that `hostOps0_5` does not write keeps its contents. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
/-- The arguments after `hostOps0_5`. -/
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- The buffers after `hostOps0_6`. -/
abbrev W7 : Dev nD → Valuation τ sig (Elt F) := fun c => StableHlo.after hostOps0_6 (W6 m ρ c)
/-- A reference that `hostOps0_6` does not write keeps its contents. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
/-- The arguments after `hostOps0_6`. -/
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- The buffers after `hostOps0_7`. -/
abbrev W8 : Dev nD → Valuation τ sig (Elt F) := fun c => StableHlo.after hostOps0_7 (W7 m ρ c)
/-- A reference that `hostOps0_7` does not write keeps its contents. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
/-- The arguments after `hostOps0_7`. -/
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- The buffers after `hostOps0_8`. -/
abbrev W9 : Dev nD → Valuation τ sig (Elt F) := fun c => StableHlo.after hostOps0_8 (W8 m ρ c)
/-- A reference that `hostOps0_8` does not write keeps its contents. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
/-- The arguments after `hostOps0_8`. -/
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- The same contents by reference. -/
abbrev V9 : (c : Dev nD) → (b : Ref sig .tc) → Buf (Elt F) ((c : Thread nD τ).loc b) := fun c b => W9 m ρ c b
/-- The buffers after the first call: its outputs as its blocks leave them, every other buffer as before. -/
def W10 (c : Dev nD) : Valuation τ sig (Elt F) :=
  Pipeline.withArrays spec0 c (W9 m ρ c) fun w => (dat0 (V9 m ρ) c).arrAt w cfg0.N
/-- The array of a window after the first call. -/
theorem W10_arr (c : Dev nD) (w : Fin cfg0.W) :
    W10 m ρ c (Proc.devRef .tc (Pipeline.arrRef spec0 w)) = (dat0 (V9 m ρ) c).arrAt w cfg0.N := by
  unfold W10; exact Pipeline.withArrays_arr spec0 launch0.win.arr_inj c _ _ w
/-- A buffer that is no window's array is left alone by the first call. -/
theorem W10_of_ne (c : Dev nD) (b : Ref sig .tc) (hb : ∀ w, Pipeline.arrRef spec0 w ≠ b) :
    W10 m ρ c (Proc.devRef .tc b) = W9 m ρ c (Proc.devRef .tc b) := by
  unfold W10; exact Pipeline.withArrays_of_ne spec0 c _ _ b hb
/-- A reference that is no output array of the first call keeps its contents. -/
theorem W10_of (c : Dev nD) (r : Ref sig .tc) (h : ∀ w : Fin cfg0.W, Pipeline.arrRef spec0 w = r → (cfg0.win w).isOut = false) :
    W10 m ρ c (Proc.devRef .tc r) = W9 m ρ c (Proc.devRef .tc r) := by
  by_cases hw : ∃ w : Fin cfg0.W, Pipeline.arrRef spec0 w = r
  · obtain ⟨w, rfl⟩ := hw
    exact (W10_arr m ρ c w).trans (((dat0 (V9 m ρ) c).arrAt_in w (h w rfl) _).trans (A_eq0 (V9 m ρ) c w))
  · exact W10_of_ne m ρ c r fun w e => hw ⟨w, e⟩
/-- An argument among the first call's arrays is an input. -/
theorem argsIn0 : ∀ a ∈ argRefs, ∀ w : Fin cfg0.W, Pipeline.arrRef spec0 w = a → (cfg0.win w).isOut = false :=
  ListAll.forall_mem_of_all_decide (by decide +kernel)
/-- The arguments after the first call. -/
theorem W10_args (c : Dev nD) : ∀ a ∈ argRefs, W10 m ρ c (Proc.devRef .tc a) = m ((c : Thread nD τ).loc a) :=
  fun a ha => (W10_of m ρ c a (argsIn0 a ha)).trans (W9_args m ρ c a ha)
/-- The same contents by reference. -/
abbrev V10 : (c : Dev nD) → (b : Ref sig .tc) → Buf (Elt F) ((c : Thread nD τ).loc b) := fun c b => W10 m ρ c b
/-- At the exit of the first call each array holds what the blocks leave, -/
theorem hF0 (c : Dev nD) (w : Fin cfg0.W) : (dat0 (V9 m ρ) c).arrAt w cfg0.N = V10 m ρ c (Pipeline.arrRef spec0 w) :=
  (W10_arr m ρ c w).symm
/-- and every other buffer what it held. -/
theorem hrest0 (c : Dev nD) : ∀ b, b ∉ Finset.univ.image (Pipeline.arrRef spec0) → V10 m ρ c b = V9 m ρ c b :=
  fun b hb => W10_of_ne m ρ c b fun w e => hb (Finset.mem_image.mpr ⟨w, Finset.mem_univ _, e⟩)

/-- The buffers after `hostOps1`. -/
abbrev W11 : Dev nD → Valuation τ sig (Elt F) := fun c => StableHlo.after hostOps1 (W10 m ρ c)
/-- A reference that `hostOps1` does not write keeps its contents. -/
theorem W11_of (c : Dev nD) (r : Ref sig .tc) (h : r ∉ hostOps1_W) : W11 m ρ c (Proc.devRef .tc r) = W10 m ρ c (Proc.devRef .tc r) :=
  StableHlo.after_of_writes_sub hostOps1 _ hostOps1_writes h
/-- The arguments after `hostOps1`. -/
theorem W11_args (c : Dev nD) : ∀ a ∈ argRefs, W11 m ρ c (Proc.devRef .tc a) = m ((c : Thread nD τ).loc a) :=
  fun a ha => (W11_of m ρ c a (hostOps1_args a ha)).trans (W10_args m ρ c a ha)
/-- The read of the branch's word: the comparison's bit, widened. -/
abbrev rdOp : HloOp τ sig (Elt F) :=
  StableHlo.unary main_v16 main_v17 ((extui 32 · natLt_1_32) : (⟨S_, .i1⟩ : BufTy).Contents (Elt F) → (⟨S_, .i32⟩ : BufTy).Contents (Elt F))
/-- The buffers after the read. -/
abbrev W12 : Dev nD → Valuation τ sig (Elt F) := fun c => StableHlo.after [rdOp] (W11 m ρ c)
/-- The read writes one buffer. -/
theorem rdOp_writes : ([rdOp] : List (HloOp τ sig (Elt F))).Forall fun op => op.writes ⊆ (([main_v17] : List (Ref sig .tc)).map (Proc.devRef (τ := τ) .tc)).toFinset :=
  StableHlo.forall_writes_sub_of_map rfl
/-- A reference that the read does not write keeps its contents. -/
theorem W12_of (c : Dev nD) (r : Ref sig .tc) (h : r ∉ [main_v17]) : W12 m ρ c (Proc.devRef .tc r) = W11 m ρ c (Proc.devRef .tc r) :=
  StableHlo.after_of_writes_sub [rdOp] _ rdOp_writes h
/-- The arguments after the read. -/
theorem W12_args (c : Dev nD) : ∀ a ∈ argRefs, W12 m ρ c (Proc.devRef .tc a) = m ((c : Thread nD τ).loc a) :=
  fun a ha => (W12_of m ρ c a (ListAll.forall_mem_of_all_decide (l := argRefs) (p := fun a => a ∉ [main_v17]) (by decide +kernel) a ha)).trans (W11_args m ρ c a ha)
/-- The word that the branch reads, and the arm that it names. -/
abbrev word (c : Dev nD) : BitVec 32 := W12 m ρ c main_v17 HostLoop.idx0
abbrev arm (c : Dev nD) : Fin 2 := HostLoop.branch (word m ρ c) 1
/-- The same contents by reference. -/
abbrev V12 : (c : Dev nD) → (b : Ref sig .tc) → Buf (Elt F) ((c : Thread nD τ).loc b) := fun c b => W12 m ρ c b
/-- The buffers after the second call: its outputs as its blocks leave them, every other buffer as before. -/
def W13 (c : Dev nD) : Valuation τ sig (Elt F) :=
  Pipeline.withArrays spec1 c (W12 m ρ c) fun w => (dat1 (V12 m ρ) c).arrAt w cfg1.N
/-- The array of a window after the second call. -/
theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
/-- A buffer that is no window's array is left alone by the second call. -/
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
/-- A reference that is no output array of the second call keeps its contents. -/
theorem W13_of (c : Dev nD) (r : Ref sig .tc) (h : ∀ w : Fin cfg1.W, Pipeline.arrRef spec1 w = r → (cfg1.win w).isOut = false) :
    W13 m ρ c (Proc.devRef .tc r) = W12 m ρ c (Proc.devRef .tc r) := by
  by_cases hw : ∃ w : Fin cfg1.W, Pipeline.arrRef spec1 w = r
  · obtain ⟨w, rfl⟩ := hw
    exact (W13_arr m ρ c w).trans (((dat1 (V12 m ρ) c).arrAt_in w (h w rfl) _).trans (A_eq1 (V12 m ρ) c w))
  · exact W13_of_ne m ρ c r fun w e => hw ⟨w, e⟩
/-- An argument among the second call's arrays is an input. -/
theorem argsIn1 : ∀ a ∈ argRefs, ∀ w : Fin cfg1.W, Pipeline.arrRef spec1 w = a → (cfg1.win w).isOut = false :=
  ListAll.forall_mem_of_all_decide (by decide +kernel)
/-- The arguments after the second call. -/
theorem W13_args (c : Dev nD) : ∀ a ∈ argRefs, W13 m ρ c (Proc.devRef .tc a) = m ((c : Thread nD τ).loc a) :=
  fun a ha => (W13_of m ρ c a (argsIn1 a ha)).trans (W12_args m ρ c a ha)
/-- The same contents by reference. -/
abbrev V13 : (c : Dev nD) → (b : Ref sig .tc) → Buf (Elt F) ((c : Thread nD τ).loc b) := fun c b => W13 m ρ c b
/-- At the exit of the second call each array holds what the blocks leave, -/
theorem hF1 (c : Dev nD) (w : Fin cfg1.W) : (dat1 (V12 m ρ) c).arrAt w cfg1.N = V13 m ρ c (Pipeline.arrRef spec1 w) :=
  (W13_arr m ρ c w).symm
/-- and every other buffer what it held. -/
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)

/-- What each arm does at its end: the copy of its result. -/
abbrev copyOps : Fin 2 → List (HloOp τ sig (Elt F))
  | 0 => [StableHlo.unary main_v14_0 main_v18 id]
  | 1 => [StableHlo.unary main_case0b1_v19 main_v18 id]
/-- The buffers before the copy of arm `b`. -/
abbrev Wc (b : Fin 2) : Dev nD → Valuation τ sig (Elt F) := match b with | 0 => W12 m ρ | 1 => W13 m ρ
/-- The buffers after arm `b`, and after the arm that the word names. -/
abbrev Wa (b : Fin 2) (c : Dev nD) : Valuation τ sig (Elt F) := StableHlo.after (copyOps b) (Wc m ρ b c)
abbrev Wn (c : Dev nD) : Valuation τ sig (Elt F) := Wa m ρ (arm m ρ c) c

theorem copyOps_writes (b : Fin 2) : (copyOps b : List (HloOp τ sig (Elt F))).Forall fun op => op.writes ⊆ (([main_v18] : List (Ref sig .tc)).map (Proc.devRef (τ := τ) .tc)).toFinset := by
  fin_cases b <;> exact StableHlo.forall_writes_sub_of_map rfl
/-- The arguments at the end. -/
theorem Wn_args (c : Dev nD) : ∀ a ∈ argRefs, Wn m ρ c (Proc.devRef .tc a) = m ((c : Thread nD τ).loc a) := by
  intro a ha
  unfold Wn Wa
  rw [StableHlo.after_of_writes_sub _ _ (copyOps_writes _) (ListAll.forall_mem_of_all_decide (l := argRefs) (p := fun a => a ∉ [main_v18]) (by decide +kernel) a ha)]
  generalize arm m ρ c = b
  fin_cases b
  · exact W12_args m ρ c a ha
  · exact W13_args m ρ c a ha
/-- The result at the end: the array of the call that the branch chose. -/
theorem Wn_out (c : Dev nD) : Wn m ρ c (Proc.devRef .tc main_v18)
    = if arm m ρ c = 0 then W12 m ρ c (Proc.devRef .tc main_v14_0) else W13 m ρ c (Proc.devRef .tc main_case0b1_v19) := by
  unfold Wn Wa
  generalize arm m ρ c = b
  fin_cases b
  · show StableHlo.after [StableHlo.unary main_v14_0 main_v18 id] (W12 m ρ c) main_v18 = W12 m ρ c main_v14_0
    rw [StableHlo.after_cons, StableHlo.after_nil, StableHlo.unary_result]; rfl
  · show StableHlo.after [StableHlo.unary main_case0b1_v19 main_v18 id] (W13 m ρ c) main_v18 = W13 m ρ c main_case0b1_v19
    rw [StableHlo.after_cons, StableHlo.after_nil, StableHlo.unary_result]; rfl

/-! # The segments of the program -/

/-- No prefetched tables. -/
abbrev adm : (p : Fin 2) → (pcfgs (F := F) p).Adm := fun p => (cfgs p).toPCfg_adm
/-- The proof data of both calls, each at its entry contents. -/
def pdats : (p : Fin 2) → (c : Dev nD) → Dat τ (Elt F) Unit ℕ UU ℕ (Pipeline.pin (pcfgs (F := F)) adm p) c
  | ⟨0, _⟩ => fun c => dat0 (V9 m ρ) c
  | ⟨1, _⟩ => fun c => dat1 (V12 m ρ) c
abbrev 𝒱₀ : Variants := Variants.none
abbrev L : GSem nD τ sig → Finset Unit := fun _ => ∅
abbrev lv : GSem nD τ sig → Unit → ℕ := fun _ _ => 0
/-- Beside the buffers ride the generator's register and what the core owes, which is nothing. -/
abbrev R (c : Dev nD) : sProp 𝕄 := iprop((∃ r, prngReg c r) ∗ ∃ W, owes (c : Thread nD τ) (0 : CellTallies nD τ sig Unit) W)
/-- In arm `b` rides also that the word names it. -/
abbrev Ra (b : Fin 2) (c : Dev nD) : sProp 𝕄 := iprop(⌜b = arm m ρ c⌝ ∗ R c)
/-- An unscoped reference is held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- the pinned configuration unifies only when plain definitions may be unfolded in a metavariable's type
set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V9 m ρ) c).loose
  hwaits := Pipeline.hwaits_of_owed_zero _ _ _ _ L lv 0 fun _ _ => rfl
  pre c := iprop(held (c : Thread nD τ) (Pipeline.ucRefs τ sig) (W9 m ρ c) ∗ R c)
  post c := iprop(held (c : Thread nD τ) (Pipeline.ucRefs τ sig) (W10 m ρ c) ∗ R c)
  X c := iprop(∃ r, prngReg c r)
  Y c := iprop(∃ r, prngReg c r)
  Z c := iprop(Pipeline.unscopedRest (Ix := Unit) (Name := ℕ) (U := UU) (Lvl := ℕ) spec0 c (V9 m ρ c))
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V9 m ρ c) (A_eq0 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU) (Lvl := ℕ)
      launch0.win launch0.arr_whole c (pdats m ρ) ((pdats m ρ 0 c).share_full fun _ => rfl)
      (V9 m ρ c) (V10 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pinned configuration unifies only when plain definitions may be unfolded in a metavariable's type
set_option backward.isDefEq.respectTransparency.types false in
/-- The second call as a segment, with the fact that the word names its arm. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(held (c : Thread nD τ) (Pipeline.ucRefs τ sig) (W12 m ρ c) ∗ Ra m ρ 1 c)
  post c := iprop(held (c : Thread nD τ) (Pipeline.ucRefs τ sig) (W13 m ρ c) ∗ Ra m ρ 1 c)
  X c := iprop(∃ r, prngReg c r)
  Y c := iprop(∃ r, prngReg c r)
  Z c := iprop(⌜(1 : Fin 2) = arm m ρ c⌝ ∗ Pipeline.unscopedRest (Ix := Unit) (Name := ℕ) (U := UU) (Lvl := ℕ) spec1 c (V12 m ρ c))
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) (A_eq1 (V12 m ρ) c)
    rw [Pipeline.unscopedBufs_held] at hsplit
    iintro ⟨⟨Hub, %hv, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    isplitr; · ipureintro; exact hv
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, %hv, Hrest⟩
    imodintro
    isplitl [Ha Hrest]
    · iapply hjoin; isplitl [Ha] <;> iassumption
    isplitr; · ipureintro; exact hv
    isplitl [HY]; · iexact HY
    unfold Pipeline.Dat.owesAt Pipeline.owesWithin
    icases HO with ⟨%W, -, HO⟩; iexists W; iexact HO

/-- The program has no host loop. -/
abbrev loops : Fin 0 → Prog (TpuEff nD τ sig (Elt F) (HostLoop.Sig (Pipeline.Sig Λ₀ (Fin 2) fun p => (pcfgs (F := F) p).Adm) 0) .tc) PUnit := fun l => l.elim0
/-- Each call is entered at most once. -/
def tk : Fin 2 → Ticket (Ix := Unit) (Name := ℕ) (U := UU) (Lvl := ℕ) (nD := nD) (τ := τ) (pcfgs (F := F)) adm
  | ⟨0, h⟩ => { p := 0, pdats := pdats m ρ, EP := embAt ⟨0, h⟩ }
  | ⟨1, h⟩ => { p := 1, pdats := pdats m ρ, EP := embAt ⟨1, h⟩ }

abbrev KitSeg : Type 1 := CSeg (pcfgs (F := F)) adm defs₀ 𝒱₀ L lv loops (tk m ρ)

/-- A stretch of host operations as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) : KitSeg m ρ :=
  CSeg.ofOps _ _ _ _ _ _ _ _ (Pipeline.ucRefs τ sig) ops
    (fun op h => Pipeline.sub_ucRefs op ((List.forall_iff_forall_mem.mp hsub) op h))
    (fun op h => (List.forall_iff_forall_mem.mp hfresh) op h) W R

theorem hinj : Function.Injective (Pipeline.cellOf (nD := nD) (τ := τ) (Pipeline.pin (pcfgs (F := F)) adm)) := cellOf_inj

/-- The two calls as segments. -/
def call0 : KitSeg m ρ := CSeg.region _ _ () hinj _ _ _ _ _ _ (0 : Fin 2) (reg0 m ρ)
def call1 : KitSeg m ρ := CSeg.region _ _ () hinj _ _ _ _ _ _ (1 : Fin 2) (reg1 m ρ)

theorem copyOps_sub (b : Fin 2) : ∀ op ∈ (copyOps (F := F) b), op.bufs ⊆ Pipeline.ucRefs τ sig := by
  intro op h; fin_cases b <;> fin_cases h <;> exact Pipeline.sub_ucRefs _ (StableHlo.unary_bufs_sub ..)
theorem copyOps_fresh (b : Fin 2) : ∀ op ∈ (copyOps (F := F) b), op.fresh = ∅ := by
  intro op h; fin_cases b <;> fin_cases h <;> rfl

/-- The copy at the end of arm `b`. -/
def copySeg (b : Fin 2) : KitSeg m ρ :=
  CSeg.ofOps _ _ _ _ _ _ _ _ (Pipeline.ucRefs τ sig) (copyOps b) (copyOps_sub b) (copyOps_fresh b) (Wc m ρ b) (Ra m ρ b)

/-- The arms as printed, and the read. -/
abbrev armProg : Fin 2 → Prog (TpuEff nD τ sig (Elt F) (HostLoop.Sig (Pipeline.Sig Λ₀ (Fin 2) fun p => (pcfgs (F := F) p).Adm) 0) .tc) PUnit
  | 0 => do
      hlo rfl (StableHlo.unary main_v14_0 main_v18 id) (fun _ => .ret ⟨⟩)
      pure ⟨⟩
  | 1 => do
      Prog.lift (.customCall (HostLoop.inner (Pipeline.entry 1)) ())
      hlo rfl (StableHlo.unary main_case0b1_v19 main_v18 id) (fun _ => .ret ⟨⟩)
      pure ⟨⟩
  | ⟨_ + 2, h⟩ => absurd h (Nat.not_lt.2 (Nat.le_add_left _ _))
abbrev rdProg : Prog (TpuEff nD τ sig (Elt F) (HostLoop.Sig (Pipeline.Sig Λ₀ (Fin 2) fun p => (pcfgs (F := F) p).Adm) 0) .tc) (BitVec 32) :=
  hlo rfl (rdOp (F := F)) (HostLoop.elt main_v17)

/-- The state before the branch, after the read of the word `v`, and after the branch. -/
abbrev cpre (c : Dev nD) : sProp 𝕄 := iprop(held (c : Thread nD τ) (Pipeline.ucRefs τ sig) (W11 m ρ c) ∗ R c)
abbrev cmid (v : BitVec 32) (c : Dev nD) : sProp 𝕄 := iprop(held (c : Thread nD τ) (Pipeline.ucRefs τ sig) (W12 m ρ c) ∗ ⌜v = word m ρ c⌝ ∗ R c)
abbrev cpost (c : Dev nD) : sProp 𝕄 := iprop(held (c : Thread nD τ) (Pipeline.ucRefs τ sig) (Wn m ρ c) ∗ R c)

-- a rule stated for any thread unifies at the TensorCore's only when plain definitions may be unfolded in a type
set_option backward.isDefEq.respectTransparency.types false in
/-- The read returns the word. -/
theorem read_spec (c : Dev nD) (bd : Option (Variants.lift 𝒱₀).V) :
    iprop(boundary (c : Thread nD τ) ∗ cpre m ρ c)
      ⊢ wp frame (wpE (HostLoop.defs loops (Pipeline.defs (pcfgs (F := F)) defs₀)) (Variants.lift 𝒱₀) (c : Thread nD τ) bd) Set.univ (rdProg (F := F))
          (fun v => iprop(⌜True⌝ ∗ boundary (c : Thread nD τ) ∗ cmid m ρ v c)) := by
  unfold rdProg
  iintro ⟨Hb, Hh, HR⟩
  iapply (StableHlo.wp_hlo_within (Variants.lift 𝒱₀) (c : Thread nD τ) bd Set.univ (Pipeline.sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold W12; rw [StableHlo.after_cons, StableHlo.after_nil]; iexact Hh
  isplitr; · ipureintro; rfl
  iexact HR

/-- The segments of each arm. -/
def armSegs : Fin 2 → List (KitSeg m ρ)
  | 0 => [copySeg m ρ 0]
  | 1 => [call1 m ρ, copySeg m ρ 1]

/-- From the state after the read, the arm that the word names runs to the state after the branch. -/
theorem arm_chain (c : Dev nD) (v : BitVec 32) : CSeg.ChainsAt c (cmid m ρ v) (armSegs m ρ (HostLoop.branch v 1)) (cpost m ρ) := by
  have hend : ∀ b : Fin 2, iprop(held (c : Thread nD τ) (Pipeline.ucRefs τ sig) (Wa m ρ b c) ∗ Ra m ρ b c) ⊢ cpost m ρ c := by
    intro b
    iintro ⟨Hh, %hv, HR⟩
    subst hv
    isplitl [Hh] <;> iassumption
  have hstart : ∀ b : Fin 2, HostLoop.branch v 1 = b → cmid m ρ v c ⊢ iprop(held (c : Thread nD τ) (Pipeline.ucRefs τ sig) (W12 m ρ c) ∗ Ra m ρ b c) := by
    intro b hb
    iintro ⟨Hh, %hv, HR⟩
    isplitl [Hh]; · iexact Hh
    isplitr; · ipureintro; rw [← hb, hv]
    iexact HR
  generalize HostLoop.branch v 1 = b at hstart ⊢
  fin_cases b
  · exact ⟨hstart 0 rfl, hend 0⟩
  · exact ⟨hstart 1 rfl, .rfl, hend 1⟩

/-- The branch. -/
def condW : CaseSeg (pcfgs (F := F)) adm defs₀ 𝒱₀ L lv loops (tk m ρ) where
  on := fun _ => True
  N := 1
  rd := rdProg
  br := armProg
  pre := cpre m ρ
  mid := cmid m ρ
  post := cpost m ρ
  live := fun _ => True
  hrd := fun c _ bd => read_spec m ρ c bd
  segs := armSegs m ρ
  hch := fun c _ v _ => arm_chain m ρ c v
  hbr := fun b _ => by fin_cases b <;> chain_rfl
  B := (call1 m ρ).M
  hM := fun b _ s hs => by
    fin_cases b
    · obtain rfl := List.mem_singleton.mp hs
      exact Nat.zero_le _
    · rcases List.mem_cons.mp hs with rfl | hs
      · exact le_rfl
      · obtain rfl := List.mem_singleton.mp hs
        exact Nat.zero_le _
  T := {1}
  hT := fun b _ s hs => by
    fin_cases b
    · obtain rfl := List.mem_singleton.mp hs
      exact Finset.empty_subset _
    · rcases List.mem_cons.mp hs with rfl | hs
      · exact subset_rfl
      · obtain rfl := List.mem_singleton.mp hs
        exact Finset.empty_subset _
  hdisT := fun b _ => by
    fin_cases b
    · exact List.pairwise_singleton ..
    · refine List.pairwise_cons.mpr ⟨fun s hs => ?_, List.pairwise_singleton ..⟩
      obtain rfl := List.mem_singleton.mp hs
      exact Finset.disjoint_empty_right _

/-- The branch as a segment. -/
def cond0 : KitSeg m ρ := CSeg.case _ _ _ _ _ _ _ _ (condW m ρ)

/-- The whole program's segments. -/
abbrev segs : List (KitSeg m ρ) :=
  [ hseg m ρ hostOps0 hostOps0_sub hostOps0_fresh (W0 m ρ),
    hseg m ρ hostOps0_1 hostOps0_1_sub hostOps0_1_fresh (W1 m ρ),
    hseg m ρ hostOps0_2 hostOps0_2_sub hostOps0_2_fresh (W2 m ρ),
    hseg m ρ hostOps0_3 hostOps0_3_sub hostOps0_3_fresh (W3 m ρ),
    hseg m ρ hostOps0_4 hostOps0_4_sub hostOps0_4_fresh (W4 m ρ),
    hseg m ρ hostOps0_5 hostOps0_5_sub hostOps0_5_fresh (W5 m ρ),
    hseg m ρ hostOps0_6 hostOps0_6_sub hostOps0_6_fresh (W6 m ρ),
    hseg m ρ hostOps0_7 hostOps0_7_sub hostOps0_7_fresh (W7 m ρ),
    hseg m ρ hostOps0_8 hostOps0_8_sub hostOps0_8_fresh (W8 m ρ),
    call0 m ρ,
    hseg m ρ hostOps1 hostOps1_sub hostOps1_fresh (W10 m ρ),
    cond0 m ρ ]

/-- The branch as printed, lifted, is the segment's program. -/
theorem lift_case : (HostLoop.liftProg (L := 0) (do
      let x ← hlo rfl (rdOp (F := F)) (HostLoop.elt main_v17)
      HostLoop.case 2 x fun
        | 0 => do
            hlo rfl (StableHlo.unary main_v14_0 main_v18 id) (fun _ => .ret ⟨⟩)
            pure ⟨⟩
        | 1 => do
            Prog.lift (.customCall (Pipeline.entry 1) ())
            hlo rfl (StableHlo.unary main_case0b1_v19 main_v18 id) (fun _ => .ret ⟨⟩)
            pure ⟨⟩
        | ⟨_ + 2, h⟩ => absurd h (Nat.not_lt.2 (Nat.le_add_left _ _)) :
      Prog (TpuEff nD τ sig (Elt F) (Pipeline.Sig Λ₀ (Fin 2) fun p => (pcfgs (F := F) p).Adm) .tc) PUnit))
    = rdProg >>= fun x => HostLoop.case 2 x armProg := by
  rw [HostLoop.liftProg_bind]
  refine congrArg₂ (fun a b => a >>= b) rfl (funext fun x => ?_)
  rw [HostLoop.liftProg_case]
  refine congrArg _ (funext fun i => ?_)
  fin_cases i <;> rfl

/-- The program, lifted, is the run of the segments. -/
theorem main_run (c : Dev nD) : HostLoop.liftProg (L := 0) (main (F := F) c) = CSeg.runL (segs m ρ) := by
  rw [main_chain, HostLoop.liftProg_chain]
  simp only [List.map, HostLoop.liftProg_seq]
  erw [lift_case]
  chain_rfl

theorem segs_disjoint : (segs m ρ).Pairwise fun s s' => Disjoint s.T s'.T := by
  have h0 : (call0 m ρ).T = {0} := rfl
  have h1 : (cond0 m ρ).T = {1} := rfl
  simp only [segs, List.pairwise_cons, List.mem_cons, List.not_mem_nil, or_false, forall_eq_or_imp, forall_eq, h0, h1]
  simp [CSeg.ofOps]

/-! # The run -/

/-- No semaphore outlives a call. -/
theorem no_unscoped : ∀ sm : SemLoc sig, sm.isScoped .tc = true := by decide

-- the launch's implicit arguments are found by unfolding plain definitions in a metavariable's type
set_option backward.isDefEq.respectTransparency.types false in
/-- From any memory with zero counters the program ends, and leaves every buffer at its last contents and every counter at zero. -/
theorem run_lift : θ_run (HostLoop.defs loops (Pipeline.defs (pcfgs (F := F)) defs₀)) (onTc (τ := τ) fun c => HostLoop.liftProg (L := 0) (main (F := F) c)) ⟨m, fun _ => 0, ρ⟩
    (fun r => (∀ (c : Dev nD), ∀ b ∈ Pipeline.ucRefs τ sig, r.2.mem (((c : Thread nD τ)).1, b) = Wn m ρ c b) ∧ r.2.sem = fun _ => 0) :=
  Pipeline.θ_run_regions_loop_kit_sems (pcfgs (F := F)) adm hinj defs₀ 𝒱₀ L lv loops (tk m ρ) m ρ (fun c => HostLoop.liftProg (L := 0) (main (F := F) c)) (segs m ρ)
    (fun c Q => by rw [main_run m ρ c]) (segs_disjoint m ρ)
    (O₀ := 0) (hL := fun _ _ => rfl) (G := fun _ => iprop(emp))
    (u₀ := (fun _ => initOf (Pipeline.cells (Pipeline.pin (pcfgs (F := F)) adm) hinj) (Pipeline.launchToks (Pipeline.pin (pcfgs (F := F)) adm) hinj), 1))
    (hu₀ := by
      iintro Hu
      ihave H := (ownU_pair _ _) $$ Hu
      icases H with ⟨HX, -⟩
      ihave HX := (own_iprod (B := Counters) _) $$ HX
      imodintro
      isplitl [HX]
      · iapply (show (bigSep Finset.univ fun j : Fin 2 => (BI.own (embAt (B := Counters) j (initOf (Pipeline.cells (Pipeline.pin (pcfgs (F := F)) adm) hinj) (Pipeline.launchToks (Pipeline.pin (pcfgs (F := F)) adm) hinj))) : sProp 𝕄))
            ⊢ bigSep Finset.univ fun j => BI.own ((tk m ρ j).EP (initOf (Pipeline.cells (Pipeline.pin (pcfgs (F := F)) adm) hinj) (Pipeline.launchToks (Pipeline.pin (pcfgs (F := F)) adm) hinj)))
          from bigSep_mono fun j _ => by fin_cases j <;> exact Idealize.SL.BI.Entails.refl _)
        iexact HX
      iapply (show (BI.emp : sProp 𝕄) ⊢ bigSep Finset.univ (fun _ : Dev nD => (BI.emp : sProp 𝕄)) from by rw [BI.bigSep_emp_const])
      iempintro)
    (T₀ := fun c => iprop(held (c : Thread nD τ) (Pipeline.ucRefs τ sig) (W0 m ρ c) ∗ R c))
    (Tₙ := fun c => iprop(held (c : Thread nD τ) (Pipeline.ucRefs τ sig) (Wn m ρ c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl,
      fun _ => CSeg.case_pre _ _ _ _ _ _ _ _ (condW m ρ) trivial, fun c => by
        show cpost m ρ c ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn m ρ c b)
    (hfin := fun c s' => by
      iintro ⟨⟨Hh, -⟩, HSI⟩
      unfold held
      imodintro
      iapply (pointsTo_read_all (Pipeline.ucRefs τ sig) (fun b => (((c : Thread nD τ)).1, b)) (Wn m ρ c) s')
      isplitl [Hh] <;> iassumption)
    (hQ := fun s h hz => ⟨h, funext fun g => hz g (.inr (no_unscoped g.2))⟩)

/-- The same of the program itself. -/
theorem run : θ_run defs (onTc (τ := τ) (main (F := F))) ⟨m, fun _ => 0, ρ⟩
    (fun r => (∀ (c : Dev nD), ∀ b ∈ Pipeline.ucRefs τ sig, r.2.mem (((c : Thread nD τ)).1, b) = Wn m ρ c b) ∧ r.2.sem = fun _ => 0) :=
  HostLoop.θ_run_of_lift loops _ _ _ _ (run_lift m ρ)

/-- The contents of an argument at the end. -/
theorem arg_end {s : MemSt nD τ sig (Elt F)} (h : ∀ (c : Dev nD), ∀ b ∈ Pipeline.ucRefs τ sig, s.mem (((c : Thread nD τ)).1, b) = Wn m ρ c b)
    (c : Dev nD) (a : Ref sig .tc) (ha : a ∈ argRefs) (hs : ¬ (Proc.devRef .tc a : DevRef τ sig).isScoped) :
    s.mem ((c.tc : Thread nD τ).loc a) = m ((c.tc : Thread nD τ).loc a) :=
  (h c _ (mem_uc a hs)).trans (Wn_args m ρ c a ha)

/-- The program ends with its arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨fun c => ⟨arg_end m ρ h.1 c main_arg0 (by decide) (by decide),
    arg_end m ρ h.1 c main_arg1 (by decide) (by decide),
    arg_end m ρ h.1 c main_arg2 (by decide) (by decide),
    arg_end m ρ h.1 c main_arg3 (by decide) (by decide),
    arg_end m ρ h.1 c main_arg4 (by decide) (by decide),
    arg_end m ρ h.1 c main_arg5 (by decide) (by decide),
    arg_end m ρ h.1 c main_arg6 (by decide) (by decide),
    arg_end m ρ h.1 c main_arg7 (by decide) (by decide),
    arg_end m ρ h.1 c main_arg8 (by decide) (by decide),
    arg_end m ρ h.1 c main_arg9 (by decide) (by decide),
    arg_end m ρ h.1 c main_arg10 (by decide) (by decide),
    arg_end m ρ h.1 c main_arg11 (by decide) (by decide),
    arg_end m ρ h.1 c main_arg12 (by decide) (by decide),
    arg_end m ρ h.1 c main_arg13 (by decide) (by decide)⟩, h.2⟩) (run m ρ)

end Cert.Proof.KI
-- ==== Proof.Arrays.lean ====
module

public import proofs.«01_k».proof.Proof.GeneralBlock
public import proofs.«01_k».proof.Proof.KernelIdeal.Run
public import Idealize.ShloMosaic.Lib.Pipeline.ValueKit

@[expose] public section

-- a block of 2048 rows is placed coordinate by coordinate
set_option maxRecDepth 16384

noncomputable section

namespace Cert.Proof.KI

open Cert.KernelIdeal Cert.KernelIdeal.Gen Idealize.ShloMosaic Idealize.ShloMosaic.TcCoe
open Cert.Proof.Spec Cert.Proof.Counts Cert.Proof.Floats
open Idealize.ShloMosaic.Pipeline (Dat Cfg Window)

/-- One entry of the whole result, from the operands: row `r`, column `j`. -/
abbrev wholeEntry (y0 y1 y2 : Vec Ideal S16384x200 .f32) (y3 : Vec Ideal S16384x3 .f32)
    (y4 : Vec Ideal S16x8 .f32) (y5 : Vec Ideal S16x8 .f32) (y6 : Vec Ideal S8x8 .f32) (y7 : Vec Ideal S8x8 .f32) (y8 : Vec Ideal S1x32 .f32)
    (r : Fin 16384) (j : Fin 32) : EReal :=
  entry (rowOf y0 r) (rowOf y1 r) (rowOf y2 r) (y3 (ix2 r 0)) (y3 (ix2 r 1)) (y3 (ix2 r 2))
    (fun k i => y4 (ix2 (k.castLE (by omega)) i)) (fun k i => y5 (ix2 (k.castLE (by omega)) i))
    (fun k i => y6 (ix2 (k.castLE (by omega)) i)) (fun k i => y7 (ix2 (k.castLE (by omega)) i)) (y8 (ix2 0 j)) j

variable (V : (c : Dev nD) → (b : Ref sig .tc) → Buf (Elt Ideal) ((c : Thread nD τ).loc b)) (c : Dev nD)

/-- The entries that the operands of a call specify. -/
abbrev wanted (r : Fin 16384) (j : Fin 32) : EReal :=
  wholeEntry (V c main_arg0) (V c main_arg1) (V c main_arg2) (V c main_v3) (V c main_v5) (V c main_v7) (V c main_v9) (V c main_v11) (V c main_v13) r j

/-- The prices as a call finds them. -/
abbrev pricesAt : Vec Ideal S16384x200 .f32 := V c main_arg0

/-- The place of each block of the fast call. -/
theorem places0 : ∀ t : Fin cfg0.N, win0_0.index t = ![(grid0.coords t 0).val, 0] ∧ win0_1.index t = ![(grid0.coords t 0).val, 0] ∧ win0_2.index t = ![(grid0.coords t 0).val, 0] ∧ win0_3.index t = ![(grid0.coords t 0).val, 0] ∧ win0_4.index t = ![0, 0] ∧ win0_5.index t = ![0, 0] ∧ win0_6.index t = ![0, 0] ∧ win0_7.index t = ![0, 0] ∧ win0_8.index t = ![0, 0] ∧ win0_9.index t = ![(grid0.coords t 0).val, 0] ∧ win0_10.index t = ![(grid0.coords t 0).val, 0] :=
  (by decide +kernel : ∀ t : Fin grid0.N, _)

set_option maxHeartbeats 4000000 in
/-- The entries specified from the blocks of the fast call are those specified from the whole operands. -/
theorem fast_whole (t : Fin cfg0.N) (r : Fin 2048) (j : Fin 32) (R : Fin 16384) (hR : R.val = (grid0.coords t 0).val * 2048 + r.val) :
    blockEntry (iblk0 V c 0 t) (iblk0 V c 1 t) (iblk0 V c 2 t) (iblk0 V c 3 t) (iblk0 V c 4 t) (iblk0 V c 5 t) (iblk0 V c 6 t) (iblk0 V c 7 t) (iblk0 V c 8 t) r j
      = wanted V c R j := by
  obtain ⟨e0, e1, e2, e3, e4, e5, e6, e7, e8, e9, e10⟩ := places0 t
  refine entry_congr (funext fun l => ?_) (funext fun l => ?_) (funext fun l => ?_) ?_ ?_ ?_ (funext fun k => funext fun i => ?_)
    (funext fun k => funext fun i => ?_) (funext fun k => funext fun i => ?_) (funext fun k => funext fun i => ?_) ?_ rfl
  · blk_simp [iblk0, e0]; refine congrArg (V c main_arg0) ?_; blk_ext [e0, hR]
  · blk_simp [iblk0, e1]; refine congrArg (V c main_arg1) ?_; blk_ext [e1, hR]
  · blk_simp [iblk0, e2]; refine congrArg (V c main_arg2) ?_; blk_ext [e2, hR]
  · blk_simp [iblk0, e3]; refine congrArg (V c main_v3) ?_; blk_ext [e3, hR]
  · blk_simp [iblk0, e3]; refine congrArg (V c main_v3) ?_; blk_ext [e3, hR]
  · blk_simp [iblk0, e3]; refine congrArg (V c main_v3) ?_; blk_ext [e3, hR]
  · blk_simp [iblk0, e4]; refine congrArg (V c main_v5) ?_; blk_ext [e4]
  · blk_simp [iblk0, e5]; refine congrArg (V c main_v7) ?_; blk_ext [e5]
  · blk_simp [iblk0, e6]; refine congrArg (V c main_v9) ?_; blk_ext [e6]
  · blk_simp [iblk0, e7]; refine congrArg (V c main_v11) ?_; blk_ext [e7]
  · blk_simp [iblk0, e8]; refine congrArg (V c main_v13) ?_; blk_ext [e8]

/-- A row of a block of the prices of the fast call is a row of the prices. -/
theorem fast_row (t : Fin cfg0.N) (r : Fin 2048) (R : Fin 16384) (hR : R.val = (grid0.coords t 0).val * 2048 + r.val) :
    rowOf (n := 2048) (iblk0 V c 0 t) r = rowOf (pricesAt V c) R := by
  funext l
  obtain ⟨e0, e1, e2, e3, e4, e5, e6, e7, e8, e9, e10⟩ := places0 t
  blk_simp [iblk0, e0]; refine congrArg (V c main_arg0) ?_; blk_ext [e0, hR]

/-- One entry of a block of the result of the fast call. -/
theorem fast_place (hx : ∀ r, Finite (rowOf (pricesAt V c) r)) (hs : ∀ r l, mag (rowOf (pricesAt V c) r l) ≤ 9)
    (t : Fin cfg0.N) (r : Fin 2048) (j : Fin 32) (R : Fin 16384) (hR : R.val = (grid0.coords t 0).val * 2048 + r.val) :
    out0_9 (iblk0 V c 0 t) (iblk0 V c 1 t) (iblk0 V c 2 t) (iblk0 V c 3 t) (iblk0 V c 4 t) (iblk0 V c 5 t) (iblk0 V c 6 t) (iblk0 V c 7 t) (iblk0 V c 8 t) (ix2 r j) = wanted V c R j := by
  have hrow := fast_row V c t r R hR
  have h1 : Finite (rowOf (n := 2048) (iblk0 V c 0 t) r) := fun l => (congrFun hrow l).symm ▸ hx R l
  have h2 : ∀ l, mag (rowOf (n := 2048) (iblk0 V c 0 t) r l) ≤ 9 := fun l => (congrFun hrow l).symm ▸ hs R l
  exact (fast_block (iblk0 V c 0 t) (iblk0 V c 1 t) (iblk0 V c 2 t) (iblk0 V c 3 t) (iblk0 V c 4 t) (iblk0 V c 5 t) (iblk0 V c 6 t) (iblk0 V c 7 t) (iblk0 V c 8 t) r j h1 h2).trans (fast_whole V c t r j R hR)

/-- The result of the fast call. -/
theorem fast_array (hx : ∀ r, Finite (rowOf (pricesAt V c) r)) (hs : ∀ r l, mag (rowOf (pricesAt V c) r l) ≤ 9) :
    (dat0 V c).arrAt 9 cfg0.N = fun i => wanted V c (i 0) (i 1) := by
  refine (dat0 V c).arrAt_eq_of_covers 9 _ (by decide +kernel) fun t hf y => ?_
  obtain ⟨e0, e1, e2, e3, e4, e5, e6, e7, e8, e9, e10⟩ := places0 t
  blk_simp
  rw [after0_9]
  refine (congrArg (out0_9 (iblk0 V c 0 t) (iblk0 V c 1 t) (iblk0 V c 2 t) (iblk0 V c 3 t) (iblk0 V c 4 t) (iblk0 V c 5 t) (iblk0 V c 6 t) (iblk0 V c 7 t) (iblk0 V c 8 t)) (eq_ix2 y)).trans ?_
  have hR : ((win0_9.blk t).view.emb y 0).val = (grid0.coords t 0).val * 2048 + (y 0).val := by blk_simp [e9]
  have hJ : ((win0_9.blk t).view.emb y 1).val = (y 1).val := by blk_simp [e9]
  exact (fast_place V c hx hs t (y 0) (y 1) _ hR).trans (congrArg (wanted V c _) (Fin.ext hJ.symm))

/-- The place of each block of the general call. -/
theorem places1 : ∀ t : Fin cfg1.N, win1_0.index t = ![(grid1.coords t 0).val, 0] ∧ win1_1.index t = ![(grid1.coords t 0).val, 0] ∧ win1_2.index t = ![(grid1.coords t 0).val, 0] ∧ win1_3.index t = ![(grid1.coords t 0).val, 0] ∧ win1_4.index t = ![0, 0] ∧ win1_5.index t = ![0, 0] ∧ win1_6.index t = ![0, 0] ∧ win1_7.index t = ![0, 0] ∧ win1_8.index t = ![0, 0] ∧ win1_9.index t = ![(grid1.coords t 0).val, 0] :=
  (by decide +kernel : ∀ t : Fin grid1.N, _)

set_option maxHeartbeats 4000000 in
/-- The entries specified from the blocks of the general call are those specified from the whole operands. -/
theorem general_whole (t : Fin cfg1.N) (r : Fin 2048) (j : Fin 32) (R : Fin 16384) (hR : R.val = (grid1.coords t 0).val * 2048 + r.val) :
    blockEntry (iblk1 V c 0 t) (iblk1 V c 1 t) (iblk1 V c 2 t) (iblk1 V c 3 t) (iblk1 V c 4 t) (iblk1 V c 5 t) (iblk1 V c 6 t) (iblk1 V c 7 t) (iblk1 V c 8 t) r j
      = wanted V c R j := by
  obtain ⟨e0, e1, e2, e3, e4, e5, e6, e7, e8, e9⟩ := places1 t
  refine entry_congr (funext fun l => ?_) (funext fun l => ?_) (funext fun l => ?_) ?_ ?_ ?_ (funext fun k => funext fun i => ?_)
    (funext fun k => funext fun i => ?_) (funext fun k => funext fun i => ?_) (funext fun k => funext fun i => ?_) ?_ rfl
  · blk_simp [iblk1, e0]; refine congrArg (V c main_arg0) ?_; blk_ext [e0, hR]
  · blk_simp [iblk1, e1]; refine congrArg (V c main_arg1) ?_; blk_ext [e1, hR]
  · blk_simp [iblk1, e2]; refine congrArg (V c main_arg2) ?_; blk_ext [e2, hR]
  · blk_simp [iblk1, e3]; refine congrArg (V c main_v3) ?_; blk_ext [e3, hR]
  · blk_simp [iblk1, e3]; refine congrArg (V c main_v3) ?_; blk_ext [e3, hR]
  · blk_simp [iblk1, e3]; refine congrArg (V c main_v3) ?_; blk_ext [e3, hR]
  · blk_simp [iblk1, e4]; refine congrArg (V c main_v5) ?_; blk_ext [e4]
  · blk_simp [iblk1, e5]; refine congrArg (V c main_v7) ?_; blk_ext [e5]
  · blk_simp [iblk1, e6]; refine congrArg (V c main_v9) ?_; blk_ext [e6]
  · blk_simp [iblk1, e7]; refine congrArg (V c main_v11) ?_; blk_ext [e7]
  · blk_simp [iblk1, e8]; refine congrArg (V c main_v13) ?_; blk_ext [e8]

/-- A row of a block of the prices of the general call is a row of the prices. -/
theorem general_row (t : Fin cfg1.N) (r : Fin 2048) (R : Fin 16384) (hR : R.val = (grid1.coords t 0).val * 2048 + r.val) :
    rowOf (n := 2048) (iblk1 V c 0 t) r = rowOf (pricesAt V c) R := by
  funext l
  obtain ⟨e0, e1, e2, e3, e4, e5, e6, e7, e8, e9⟩ := places1 t
  blk_simp [iblk1, e0]; refine congrArg (V c main_arg0) ?_; blk_ext [e0, hR]

/-- One entry of a block of the result of the general call. -/
theorem general_place (hx : ∀ r, Finite (rowOf (pricesAt V c) r)) (hb : ∀ r l, mag (rowOf (pricesAt V c) r l) < 10 ^ 10)
    (t : Fin cfg1.N) (r : Fin 2048) (j : Fin 32) (R : Fin 16384) (hR : R.val = (grid1.coords t 0).val * 2048 + r.val) :
    out1_9 (iblk1 V c 0 t) (iblk1 V c 1 t) (iblk1 V c 2 t) (iblk1 V c 3 t) (iblk1 V c 4 t) (iblk1 V c 5 t) (iblk1 V c 6 t) (iblk1 V c 7 t) (iblk1 V c 8 t) (ix2 r j) = wanted V c R j := by
  have hrow := general_row V c t r R hR
  have h1 : Finite (rowOf (n := 2048) (iblk1 V c 0 t) r) := fun l => (congrFun hrow l).symm ▸ hx R l
  have h2 : ∀ l, mag (rowOf (n := 2048) (iblk1 V c 0 t) r l) < 10 ^ 10 := fun l => (congrFun hrow l).symm ▸ hb R l
  exact (general_block (iblk1 V c 0 t) (iblk1 V c 1 t) (iblk1 V c 2 t) (iblk1 V c 3 t) (iblk1 V c 4 t) (iblk1 V c 5 t) (iblk1 V c 6 t) (iblk1 V c 7 t) (iblk1 V c 8 t) r j h1 h2).trans (general_whole V c t r j R hR)

/-- The result of the general call. -/
theorem general_array (hx : ∀ r, Finite (rowOf (pricesAt V c) r)) (hb : ∀ r l, mag (rowOf (pricesAt V c) r l) < 10 ^ 10) :
    (dat1 V c).arrAt 9 cfg1.N = fun i => wanted V c (i 0) (i 1) := by
  refine (dat1 V c).arrAt_eq_of_covers 9 _ (by decide +kernel) fun t hf y => ?_
  obtain ⟨e0, e1, e2, e3, e4, e5, e6, e7, e8, e9⟩ := places1 t
  blk_simp
  rw [after1_9]
  refine (congrArg (out1_9 (iblk1 V c 0 t) (iblk1 V c 1 t) (iblk1 V c 2 t) (iblk1 V c 3 t) (iblk1 V c 4 t) (iblk1 V c 5 t) (iblk1 V c 6 t) (iblk1 V c 7 t) (iblk1 V c 8 t)) (eq_ix2 y)).trans ?_
  have hR : ((win1_9.blk t).view.emb y 0).val = (grid1.coords t 0).val * 2048 + (y 0).val := by blk_simp [e9]
  have hJ : ((win1_9.blk t).view.emb y 1).val = (y 1).val := by blk_simp [e9]
  exact (general_place V c hx hb t (y 0) (y 1) _ hR).trans (congrArg (wanted V c _) (Fin.ext hJ.symm))

/-- The greatest integer part in the rows of a block. -/
abbrev blockMax (b : ℕ) (hb : b < 8) : EReal :=
  Finset.univ.fold max ⊥ fun q : Fin 2048 × Fin 200 =>
    ((mag (pricesAt V c (ix2 (⟨b * 2048 + q.1.val, by have := q.1.isLt; omega⟩ : Fin 16384) q.2)) : ℝ) : EReal)

/-- One entry of a block of maxima. -/
theorem max_place (hx : ∀ r, Finite (rowOf (pricesAt V c) r)) (t : Fin cfg0.N) (a : Fin 8) (b : Fin 128) :
    out0_10 (iblk0 V c 0 t) (iblk0 V c 1 t) (iblk0 V c 2 t) (iblk0 V c 3 t) (iblk0 V c 4 t) (iblk0 V c 5 t) (iblk0 V c 6 t) (iblk0 V c 7 t) (iblk0 V c 8 t) (ix2 a b)
      = blockMax V c (grid0.coords t 0).val (grid0.coords t 0).isLt := by
  have hrow : ∀ r : Fin 2048, _ := fun r => fast_row V c t r ⟨(grid0.coords t 0).val * 2048 + r.val, by have h : (grid0.coords t 0).val < 8 := (grid0.coords t 0).isLt; have := r.isLt; omega⟩ rfl
  refine (congrFun (canon_max _) (ix2 a b)).trans ?_
  rw [ld_whole]
  generalize (iblk0 V c 0 t : Vec Ideal S2048x200 .f32) = x at hrow
  pointwise [k0_pay3]
  rw [fBot]
  refine congrArg (fun f => Finset.fold max ⊥ f Finset.univ) (funext fun q => ?_)
  have h1 : Finite (rowOf x q.1) := fun l => (congrFun (hrow q.1) l).symm ▸ hx _ l
  rw [int_part x q.1 h1]
  exact congrArg (fun y : EReal => ((mag y : ℝ) : EReal)) (congrFun (hrow q.1) q.2)

/-- The maxima that the fast call leaves. -/
theorem max_array (hx : ∀ r, Finite (rowOf (pricesAt V c) r)) :
    (dat0 V c).arrAt 10 cfg0.N = fun i => blockMax V c ((i 0).val / 8) (by have := (i 0).isLt; exact Nat.div_lt_of_lt_mul this) := by
  refine (dat0 V c).arrAt_eq_of_covers 10 _ (by decide +kernel) fun t hf y => ?_
  obtain ⟨e0, e1, e2, e3, e4, e5, e6, e7, e8, e9, e10⟩ := places0 t
  blk_simp
  rw [after0_10]
  refine (congrArg (out0_10 (iblk0 V c 0 t) (iblk0 V c 1 t) (iblk0 V c 2 t) (iblk0 V c 3 t) (iblk0 V c 4 t) (iblk0 V c 5 t) (iblk0 V c 6 t) (iblk0 V c 7 t) (iblk0 V c 8 t)) (eq_ix2 y)).trans ?_
  refine (max_place V c hx t (y 0) (y 1)).trans ?_
  have hR : ((win0_10.blk t).view.emb y 0).val = (grid0.coords t 0).val * 8 + (y 0).val := by blk_simp [e10]
  have hy : (y 0).val < 8 := (y 0).isLt
  have hq : ((win0_10.blk t).view.emb y 0).val / 8 = (grid0.coords t 0).val := by omega
  have he : ∀ (a b : ℕ) (ha : a < 8) (hb : b < 8), a = b → blockMax V c a ha = blockMax V c b hb := fun a b ha hb e => by subst e; rfl
  exact he _ _ _ _ (hq.symm.trans (congrArg (· / 8) (by blk_simp)))

end Cert.Proof.KI
-- ==== Proof.Host.lean ====
module

public import proofs.«01_k».proof.Proof.Arrays

@[expose] public section

noncomputable section

namespace Cert.Proof.KI

open Cert.KernelIdeal Cert.KernelIdeal.Gen Idealize.ShloMosaic Idealize.ShloMosaic.TcCoe Idealize.ShloMosaic.Tactic
open Cert.Proof.Spec Cert.Proof.Counts Cert.Proof.Floats

/-! # What the operations on the host leave, from any contents -/

section Stretches

variable (U : Valuation τ sig (Elt Ideal))

/-- The three scalars, each as one column. -/
abbrev columns : List (HloOp τ sig (Elt Ideal)) :=
  [ StableHlo.unary main_arg3 main_v0 (broadcastInDim S16384x1 ![0] bcast_S16384_S16384x1_0 : (⟨S16384, .f32⟩ : BufTy).Contents (Elt Ideal) → (⟨S16384x1, .f32⟩ : BufTy).Contents (Elt Ideal)),
    StableHlo.unary main_arg4 main_v1 (broadcastInDim S16384x1 ![0] bcast_S16384_S16384x1_0 : (⟨S16384, .f32⟩ : BufTy).Contents (Elt Ideal) → (⟨S16384x1, .f32⟩ : BufTy).Contents (Elt Ideal)),
    StableHlo.unary main_arg5 main_v2 (broadcastInDim S16384x1 ![0] bcast_S16384_S16384x1_0 : (⟨S16384, .f32⟩ : BufTy).Contents (Elt Ideal) → (⟨S16384x1, .f32⟩ : BufTy).Contents (Elt Ideal)) ]

/-- The stacked scalars, by column. -/
theorem stack_at (r : Fin 16384) :
    StableHlo.after hostOps0 U main_v3 (ix2 r 0) = U main_arg3 (ix1 r) ∧
    StableHlo.after hostOps0 U main_v3 (ix2 r 1) = U main_arg4 (ix1 r) ∧
    StableHlo.after hostOps0 U main_v3 (ix2 r 2) = U main_arg5 (ix1 r) := by
  refine ⟨?_, ?_, ?_⟩ <;> after_results <;> pointwise []
  · show StableHlo.after columns U main_v0 (ix2 r 0) = _
    after_results; pointwise []
  · show StableHlo.after columns U main_v1 (ix2 r 0) = _
    after_results; pointwise []
  · show StableHlo.after columns U main_v2 (ix2 r 0) = _
    after_results; pointwise []

/-- An exchange of rows and columns, by entry. -/
theorem turn_any {n : ℕ} (x : Vec Ideal ⟨2, ![8, n]⟩ .f32) (h : Shape.Transposes ⟨2, ![8, n]⟩ [1, 0] ⟨2, ![n, 8]⟩) (k : Fin n) (i : Fin 8) :
    transpose ⟨2, ![n, 8]⟩ [1, 0] x h (ix2 k i) = x (ix2 i k) := by
  refine congrArg x (funext fun a => ?_)
  fin_cases a <;> rfl

/-- Padding below leaves the rows above it. -/
theorem pad_any {n p q : ℕ} (hn : n ≤ p) (x : Vec Ideal ⟨2, ![n, 8]⟩ .f32) (v : Vec Ideal S_ .f32)
    (h : Shape.Pads ⟨2, ![n, 8]⟩ ![0, 0] ![q, 0] ![0, 0] ⟨2, ![p, 8]⟩) (k : Fin n) (i : Fin 8) :
    pad ⟨2, ![p, 8]⟩ ![0, 0] ![q, 0] ![0, 0] x v h h_S_ (ix2 (k.castLE hn) i) = x (ix2 k i) := by
  pointwise []
  refine (dif_pos k.isLt).trans (congrArg x (funext fun a => ?_))
  fin_cases a <;> exact Fin.ext (by simp [Shape.Idx.norm])

/-- The weights of group 0, with rows and columns exchanged. -/
theorem turned0 (k : Fin 9) (i : Fin 8) : StableHlo.after hostOps0 U main_v4 (ix2 k i) = U main_arg6 (ix2 i k) := by
  after_results
  exact turn_any _ _ k i

/-- The padding below the weights of group 0 leaves them. -/
theorem padded0 (k : Fin 9) (i : Fin 8) : StableHlo.after hostOps0_1 U main_v5 (ix2 (k.castLE (by omega)) i) = U main_v4 (ix2 k i) := by
  after_results
  exact pad_any (by omega) _ _ pads_S9x8_S16x8_070_000 k i

/-- The weights of group 1, with rows and columns exchanged. -/
theorem turned1 (k : Fin 10) (i : Fin 8) : StableHlo.after hostOps0_2 U main_v6 (ix2 k i) = U main_arg8 (ix2 i k) := by
  after_results
  exact turn_any _ _ k i

/-- The padding below the weights of group 1 leaves them. -/
theorem padded1 (k : Fin 10) (i : Fin 8) : StableHlo.after hostOps0_3 U main_v7 (ix2 (k.castLE (by omega)) i) = U main_v6 (ix2 k i) := by
  after_results
  exact pad_any (by omega) _ _ pads_S10x8_S16x8_060_000 k i

/-- The weights of group 2, with rows and columns exchanged. -/
theorem turned2 (k : Fin 4) (i : Fin 8) : StableHlo.after hostOps0_4 U main_v8 (ix2 k i) = U main_arg10 (ix2 i k) := by
  after_results
  exact turn_any _ _ k i

/-- The padding below the weights of group 2 leaves them. -/
theorem padded2 (k : Fin 4) (i : Fin 8) : StableHlo.after hostOps0_5 U main_v9 (ix2 (k.castLE (by omega)) i) = U main_v8 (ix2 k i) := by
  after_results
  exact pad_any (by omega) _ _ pads_S4x8_S8x8_040_000 k i

/-- The weights of group 3, with rows and columns exchanged. -/
theorem turned3 (k : Fin 6) (i : Fin 8) : StableHlo.after hostOps0_6 U main_v10 (ix2 k i) = U main_arg12 (ix2 i k) := by
  after_results
  exact turn_any _ _ k i

/-- The padding below the weights of group 3 leaves them. -/
theorem padded3 (k : Fin 6) (i : Fin 8) : StableHlo.after hostOps0_7 U main_v11 (ix2 (k.castLE (by omega)) i) = U main_v10 (ix2 k i) := by
  after_results
  exact pad_any (by omega) _ _ pads_S6x8_S8x8_020_000 k i

/-- The biases of the four groups side by side. -/
theorem bias_at (j : Fin 32) : StableHlo.after hostOps0_8 U main_v13 (ix2 0 j) =
      (if h1 : j.1 < 8 then U main_arg7 (ix1 ⟨j.1, h1⟩)
        else if h2 : j.1 - 8 < 8 then U main_arg9 (ix1 ⟨j.1 - 8, h2⟩)
        else if h3 : j.1 - 8 - 8 < 8 then U main_arg11 (ix1 ⟨j.1 - 8 - 8, h3⟩)
        else U main_arg13 (ix1 ⟨j.1 - 8 - 8 - 8, by omega⟩)) := by
  after_results
  pointwise []

/-- Whether the greatest entry is above nine. -/
abbrev aboveNine (x : FVec Ideal S64x128 .f32) : IVec S_ 1 := cmpf CmpFPredicate.ogt
  (Host.reduce (FloatOps.maximumf (F := Ideal) (φ := .f32)) x (constant S_ FTy.f32 0xFF800000#32) reducesTo_S64x128_S_d0_1 h_S_) (constant S_ FTy.f32 0x41100000#32)

/-- The test on the blocks' greatest integer parts. -/
theorem test_at : StableHlo.after hostOps1 U main_v16 = aboveNine (U main_v14_1) := by
  after_results

/-- The test's bit. -/
theorem above_nine (x : FVec Ideal S64x128 .f32) : aboveNine x ix0 = 1#1 ↔ ∃ (a : Fin 64) (b : Fin 128), ((9 : ℝ) : EReal) < x (ix2 a b) := by
  have e : aboveNine x ix0 = BitVec.ofBool (decide (Ideal.ofBits FTy.f32 1091567616#32 <
      Finset.fold max (Ideal.ofBits FTy.f32 4286578688#32) (fun k : Fin 64 × Fin 128 => x (ix2 k.1 k.2)) Finset.univ)) := by
    pointwise [aboveNine]
  rw [e, f9, fBot]
  have h : ∀ b : Bool, BitVec.ofBool b = 1#1 ↔ b = true := by decide
  rw [h, decide_eq_true_iff, Finset.lt_fold_max]
  constructor
  · rintro (h | ⟨q, _, hq⟩)
    · exact absurd h not_lt_bot
    · exact ⟨q.1, q.2, hq⟩
  · rintro ⟨a, b, hq⟩
    exact .inr ⟨(a, b), Finset.mem_univ _, hq⟩

end Stretches

/-! # The operands at both calls -/

variable (m : (ℓ : Loc nD τ sig) → Buf (Elt Ideal) ℓ) (ρ : Dev nD → PrngReg) (c : Dev nD)

/-- The contents of an argument on a device. -/
abbrev argOf (a : Ref sig .tc) : Buf (Elt Ideal) ((c : Thread nD τ).loc a) := m ((c : Thread nD τ).loc a)

/-- What the second call finds of the operands is what the first found. -/
theorem W12_keep (r : Ref sig .tc) (h : r ∈ [main_arg0, main_arg1, main_arg2, main_v3, main_v5, main_v7, main_v9, main_v11, main_v13]) :
    W12 m ρ c (Proc.devRef .tc r) = W9 m ρ c (Proc.devRef .tc r) := by
  rw [W12_of m ρ c r (ListAll.forall_mem_of_all_decide (p := fun r => r ∉ [main_v17]) (by decide +kernel) r h),
    W11_of m ρ c r (ListAll.forall_mem_of_all_decide (p := fun r => r ∉ hostOps1_W) (by decide +kernel) r h),
    W10_of m ρ c r (ListAll.forall_mem_of_all_decide (p := fun r => ∀ w : Fin cfg0.W, Pipeline.arrRef spec0 w = r → (cfg0.win w).isOut = false) (by decide +kernel) r h)]

/-- The entries that both calls' operands specify, from the arguments. -/
theorem same_wanted (r : Fin 16384) (j : Fin 32) : wanted (V12 m ρ) c r j = wanted (V9 m ρ) c r j := by
  have h : ∀ r ∈ [main_arg0, main_arg1, main_arg2, main_v3, main_v5, main_v7, main_v9, main_v11, main_v13], V12 m ρ c r = V9 m ρ c r := W12_keep m ρ c
  unfold wanted
  rw [h main_arg0 (by decide), h main_arg1 (by decide), h main_arg2 (by decide), h main_v3 (by decide), h main_v5 (by decide),
    h main_v7 (by decide), h main_v9 (by decide), h main_v11 (by decide), h main_v13 (by decide)]

/-- The stacked scalars at the calls. -/
theorem scal_at (r : Fin 16384) : V9 m ρ c main_v3 (ix2 r 0) = argOf m c main_arg3 (ix1 r) ∧ V9 m ρ c main_v3 (ix2 r 1) = argOf m c main_arg4 (ix1 r) ∧
    V9 m ρ c main_v3 (ix2 r 2) = argOf m c main_arg5 (ix1 r) := by
  have e : V9 m ρ c main_v3 = W1 m ρ c (Proc.devRef .tc main_v3) := by
    show W9 m ρ c (Proc.devRef .tc main_v3) = _
    rw [W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide)]
  rw [e]
  exact stack_at (W0 m ρ c) r

/-- The weights of group 0 at the calls. -/
theorem weights0 (k : Fin 9) (i : Fin 8) : V9 m ρ c main_v5 (ix2 (k.castLE (by omega)) i) = argOf m c main_arg6 (ix2 i k) := by
  have e : V9 m ρ c main_v5 = W2 m ρ c (Proc.devRef .tc main_v5) := by
    show W9 m ρ c (Proc.devRef .tc main_v5) = _
    rw [W9_of m ρ c main_v5 (by decide), W8_of m ρ c main_v5 (by decide), W7_of m ρ c main_v5 (by decide), W6_of m ρ c main_v5 (by decide), W5_of m ρ c main_v5 (by decide), W4_of m ρ c main_v5 (by decide), W3_of m ρ c main_v5 (by decide)]
  rw [e]
  refine (padded0 (W1 m ρ c) k i).trans ((turned0 (W0 m ρ c) k i).trans ?_)
  exact congrFun (W0_args m ρ c main_arg6 (by decide)) (ix2 i k)

/-- The weights of group 1 at the calls. -/
theorem weights1 (k : Fin 10) (i : Fin 8) : V9 m ρ c main_v7 (ix2 (k.castLE (by omega)) i) = argOf m c main_arg8 (ix2 i k) := by
  have e : V9 m ρ c main_v7 = W4 m ρ c (Proc.devRef .tc main_v7) := by
    show W9 m ρ c (Proc.devRef .tc main_v7) = _
    rw [W9_of m ρ c main_v7 (by decide), W8_of m ρ c main_v7 (by decide), W7_of m ρ c main_v7 (by decide), W6_of m ρ c main_v7 (by decide), W5_of m ρ c main_v7 (by decide)]
  rw [e]
  refine (padded1 (W3 m ρ c) k i).trans ((turned1 (W2 m ρ c) k i).trans ?_)
  exact congrFun (W2_args m ρ c main_arg8 (by decide)) (ix2 i k)

/-- The weights of group 2 at the calls. -/
theorem weights2 (k : Fin 4) (i : Fin 8) : V9 m ρ c main_v9 (ix2 (k.castLE (by omega)) i) = argOf m c main_arg10 (ix2 i k) := by
  have e : V9 m ρ c main_v9 = W6 m ρ c (Proc.devRef .tc main_v9) := by
    show W9 m ρ c (Proc.devRef .tc main_v9) = _
    rw [W9_of m ρ c main_v9 (by decide), W8_of m ρ c main_v9 (by decide), W7_of m ρ c main_v9 (by decide)]
  rw [e]
  refine (padded2 (W5 m ρ c) k i).trans ((turned2 (W4 m ρ c) k i).trans ?_)
  exact congrFun (W4_args m ρ c main_arg10 (by decide)) (ix2 i k)

/-- The weights of group 3 at the calls. -/
theorem weights3 (k : Fin 6) (i : Fin 8) : V9 m ρ c main_v11 (ix2 (k.castLE (by omega)) i) = argOf m c main_arg12 (ix2 i k) := by
  have e : V9 m ρ c main_v11 = W8 m ρ c (Proc.devRef .tc main_v11) := by
    show W9 m ρ c (Proc.devRef .tc main_v11) = _
    rw [W9_of m ρ c main_v11 (by decide)]
  rw [e]
  refine (padded3 (W7 m ρ c) k i).trans ((turned3 (W6 m ρ c) k i).trans ?_)
  exact congrFun (W6_args m ρ c main_arg12 (by decide)) (ix2 i k)

/-- The bias of a column, from the four groups' biases. -/
def biasOf (j : Fin 32) : EReal :=
  if h1 : j.1 < 8 then argOf m c main_arg7 (ix1 ⟨j.1, h1⟩)
  else if h2 : j.1 - 8 < 8 then argOf m c main_arg9 (ix1 ⟨j.1 - 8, h2⟩)
  else if h3 : j.1 - 8 - 8 < 8 then argOf m c main_arg11 (ix1 ⟨j.1 - 8 - 8, h3⟩)
  else argOf m c main_arg13 (ix1 ⟨j.1 - 8 - 8 - 8, by omega⟩)

/-- The bias at the calls. -/
theorem bias_calls (j : Fin 32) : V9 m ρ c main_v13 (ix2 0 j) = biasOf m c j := by
  refine (bias_at (W8 m ρ c) j).trans ?_
  rw [W8_args m ρ c main_arg7 (by decide), W8_args m ρ c main_arg9 (by decide), W8_args m ρ c main_arg11 (by decide), W8_args m ρ c main_arg13 (by decide)]
  rfl

/-- One entry of the result, from the arguments. -/
def fromArgs (r : Fin 16384) (j : Fin 32) : EReal :=
  entry (rowOf (n := 16384) (argOf m c main_arg0) r) (rowOf (n := 16384) (argOf m c main_arg1) r) (rowOf (n := 16384) (argOf m c main_arg2) r)
    (argOf m c main_arg3 (ix1 r)) (argOf m c main_arg4 (ix1 r)) (argOf m c main_arg5 (ix1 r))
    (fun k i => argOf m c main_arg6 (ix2 i k)) (fun k i => argOf m c main_arg8 (ix2 i k)) (fun k i => argOf m c main_arg10 (ix2 i k))
    (fun k i => argOf m c main_arg12 (ix2 i k)) (biasOf m c j) j

/-- The entries that the first call's operands specify are those from the arguments. -/
theorem wanted_args (r : Fin 16384) (j : Fin 32) : wanted (V9 m ρ) c r j = fromArgs m c r j := by
  obtain ⟨e3, e4, e5⟩ := scal_at m ρ c r
  exact entry_congr (congrArg (fun x => rowOf (n := 16384) x r) (W9_args m ρ c main_arg0 (by decide))) (congrArg (fun x => rowOf (n := 16384) x r) (W9_args m ρ c main_arg1 (by decide)))
    (congrArg (fun x => rowOf (n := 16384) x r) (W9_args m ρ c main_arg2 (by decide))) e3 e4 e5
    (funext fun k => funext fun i => weights0 m ρ c k i) (funext fun k => funext fun i => weights1 m ρ c k i)
    (funext fun k => funext fun i => weights2 m ρ c k i) (funext fun k => funext fun i => weights3 m ρ c k i) (bias_calls m ρ c j) rfl

end Cert.Proof.KI
-- ==== Proof.Range.lean ====
module

public import proofs.«01_k».proof.Proof.Host
public import proofs.«01_k».proof.Proof.Gen.Pre_in_range
public import Idealize.ShloMosaic.Lib.ReduceAll

@[expose] public section

noncomputable section

namespace Cert.Proof.KI

open Cert.KernelIdeal Cert.KernelIdeal.Gen Idealize.ShloMosaic Idealize.ShloMosaic.TcCoe Idealize.ShloMosaic.Tactic
open Cert.Proof.Spec Cert.Proof.Counts Cert.Proof.Floats

/-! # What the precondition says of the arguments -/

/-- Whether every magnitude is below a bound, in one bit. -/
abbrev allBelow (x : FVec Ideal S16384x200 .f32) (b : BitVec 32) : IVec S_ 1 :=
  Host.reduce IntOp.andi (cmpf .olt (Host.absf x) (broadcastInDim S16384x200 ![] Cert.Pre_in_range.Gen.bcast_S_S16384x200 (constant S_ .f32 b)))
    (constantI S_ 1 1#1) Cert.Pre_in_range.Gen.reducesTo_S16384x200_S_d0_1 Cert.Pre_in_range.Gen.h_S_

/-- If the bit is set, every magnitude is below the bound. -/
theorem below (x : FVec Ideal S16384x200 .f32) (b : BitVec 32) (h : allBelow x b ix0 = 1#1) (r : Fin 16384) (l : Fin 200) :
    max (x (ix2 r l)) (-(x (ix2 r l))) < Ideal.ofBits .f32 b := by
  have : Subsingleton S_.Idx := ⟨fun a b => funext fun d => d.elim0⟩
  have e := Host.reduce_andi_all _ _ _ _ _ h (ix2 r l)
  have e2 : BitVec.ofBool (decide (max (x (ix2 r l)) (-(x (ix2 r l))) < Ideal.ofBits .f32 b)) = 1#1 := e
  have h3 : ∀ b : Bool, BitVec.ofBool b = 1#1 ↔ b = true := by decide
  rw [h3, decide_eq_true_iff] at e2
  exact e2

/-- A number whose magnitude is below infinity is a real number. -/
theorem real_of_below (x : EReal) (h : max x (-x) < ⊤) : x ≠ ⊥ ∧ x ≠ ⊤ := by
  induction x with
  | bot => simp at h
  | top => simp at h
  | coe x => exact ⟨EReal.coe_ne_bot x, EReal.coe_ne_top x⟩

/-- The integer part of a magnitude below 2^31 is below 2^31. -/
theorem mag_of_below (x : EReal) (h : max x (-x) < ((2147483648 : ℝ) : EReal)) : mag x < 2 ^ 31 := by
  induction x with
  | bot => simp at h
  | top => simp at h
  | coe x =>
    have h1 : x < 2147483648 := EReal.coe_lt_coe_iff.1 ((le_max_left _ _).trans_lt h)
    have h2 : -x < 2147483648 := EReal.coe_lt_coe_iff.1 (((EReal.coe_neg x).le.trans (le_max_right _ _)).trans_lt h)
    unfold mag
    rw [EReal.toReal_coe, Nat.floor_lt (abs_nonneg x)]
    exact (abs_lt.2 ⟨by linarith, h1⟩).trans_eq (by norm_num)

variable (m : (ℓ : Loc nD τ sig) → Buf (Elt Ideal) ℓ)

/-- From inputs in range: prices are real and below 2^31 in magnitude, volumes and holding times are real. -/
theorem in_range (h : Cert.Pre_KernelIdeal_in_range (hPre_in_range := Cert.Pre_in_range.Gen.facts) m) (c : Dev nD) (r : Fin 16384) :
    Finite (rowOf (n := 16384) (argOf m c main_arg0) r) ∧ Finite (rowOf (n := 16384) (argOf m c main_arg1) r) ∧
    Finite (rowOf (n := 16384) (argOf m c main_arg2) r) ∧ ∀ l, mag (rowOf (n := 16384) (argOf m c main_arg0) r l) < 2 ^ 31 := by
  have e : IntOp.andi (IntOp.andi (allBelow (argOf m c main_arg0) 0x4F000000#32 ix0) (allBelow (argOf m c main_arg1) 0x7F800000#32 ix0))
      (allBelow (argOf m c main_arg2) 0x7F800000#32 ix0) = 1#1 := congrFun (h c) ix0
  obtain ⟨e, e2⟩ := IntOp.andi_eq_one.1 e
  obtain ⟨e0, e1⟩ := IntOp.andi_eq_one.1 e
  have b0 := fun l => (below _ _ e0 r l).trans_eq f2147483648
  have b1 := fun l => (below _ _ e1 r l).trans_eq fTop
  have b2 := fun l => (below _ _ e2 r l).trans_eq fTop
  exact ⟨fun l => real_of_below _ ((b0 l).trans (EReal.coe_lt_top _)), fun l => real_of_below _ (b1 l), fun l => real_of_below _ (b2 l),
    fun l => mag_of_below _ (b0 l)⟩

end Cert.Proof.KI
-- ==== Proof.Result.lean ====
module

public import proofs.«01_k».proof.Proof.Range

@[expose] public section

noncomputable section

namespace Cert.Proof.KI

open Cert.KernelIdeal Cert.KernelIdeal.Gen Idealize.ShloMosaic Idealize.ShloMosaic.TcCoe Idealize.ShloMosaic.Tactic
open Cert.Proof.Spec Cert.Proof.Counts Cert.Proof.Floats

/-! # The result of the kernel, whichever arm runs -/

variable (m : (ℓ : Loc nD τ sig) → Buf (Elt Ideal) ℓ) (ρ : Dev nD → PrngReg) (c : Dev nD)

/-- The branch takes its first arm exactly when the bit is clear. -/
theorem arm_bit (v : BitVec 1) : HostLoop.branch (v.setWidth 32) 1 = 0 ↔ v ≠ 1#1 := by
  revert v; decide

/-- The word that the branch reads is the test's bit, widened. -/
theorem word_bit : word m ρ c = (aboveNine (W10 m ρ c (Proc.devRef .tc main_v14_1)) ix0).setWidth 32 := by
  have e : W11 m ρ c (Proc.devRef .tc main_v16) = aboveNine (W10 m ρ c (Proc.devRef .tc main_v14_1)) := test_at (W10 m ρ c)
  rw [← e]
  show StableHlo.after [rdOp] (W11 m ρ c) main_v17 HostLoop.idx0 = _
  after_results
  rfl

/-- The prices that the first call finds are the argument. -/
theorem prices_call : pricesAt (V9 m ρ) c = argOf m c main_arg0 := W9_args m ρ c main_arg0 (by decide)

/-- The prices that the second call finds are the argument. -/
theorem prices_call2 : pricesAt (V12 m ρ) c = argOf m c main_arg0 := W12_args m ρ c main_arg0 (by decide)

/-- A fold by the greater of two is at most a bound exactly when every value is. -/
theorem fold_le {ι : Type} [Fintype ι] (f : ι → EReal) (t : EReal) : Finset.univ.fold max ⊥ f ≤ t ↔ ∀ q, f q ≤ t := by
  rw [Finset.fold_max_le]
  exact ⟨fun h q => h.2 q (Finset.mem_univ q), fun h => ⟨bot_le, fun q _ => h q⟩⟩

/-- The first arm is taken exactly when no price has an integer part above nine. -/
theorem arm_iff (hx : ∀ r, Finite (rowOf (n := 16384) (argOf m c main_arg0) r)) :
    arm m ρ c = 0 ↔ ∀ r l, mag (rowOf (n := 16384) (argOf m c main_arg0) r l) ≤ 9 := by
  have e1 : W10 m ρ c (Proc.devRef .tc main_v14_1) = fun i => blockMax (V9 m ρ) c ((i 0).val / 8) (by have := (i 0).isLt; exact Nat.div_lt_of_lt_mul this) :=
    (W10_arr m ρ c 10).trans (max_array (V9 m ρ) c (by rw [prices_call]; exact hx))
  unfold arm
  rw [word_bit, arm_bit, ne_eq, above_nine, e1]
  push Not
  constructor
  · intro h r l
    have hr := r.isLt
    have hq := h ⟨r.val / 2048 * 8, by omega⟩ 0
    have hq' : blockMax (V9 m ρ) c (r.val / 2048 * 8 / 8) (by omega) ≤ ((9 : ℝ) : EReal) := hq
    have h2 := (fold_le _ _).1 hq' (⟨r.val % 2048, Nat.mod_lt _ (by norm_num)⟩, l)
    have h3 : mag (pricesAt (V9 m ρ) c (ix2 (⟨r.val / 2048 * 8 / 8 * 2048 + r.val % 2048, by omega⟩ : Fin 16384) l)) ≤ 9 := by
      exact_mod_cast EReal.coe_le_coe_iff.1 h2
    have h4 : (⟨r.val / 2048 * 8 / 8 * 2048 + r.val % 2048, by omega⟩ : Fin 16384) = r := Fin.ext (by simp only; omega)
    rw [h4, prices_call] at h3
    exact h3
  · intro h a b
    refine (fold_le _ _).2 fun q => ?_
    rw [prices_call]
    exact EReal.coe_le_coe_iff.2 (by exact_mod_cast h _ q.2)

/-- The kernel's result, from inputs in range. -/
theorem result (h : Cert.Pre_KernelIdeal_in_range (hPre_in_range := Cert.Pre_in_range.Gen.facts) m) :
    Wn m ρ c (Proc.devRef .tc main_v18) = fun i => fromArgs m c (i 0) (i 1) := by
  have hx : ∀ r, Finite (rowOf (n := 16384) (argOf m c main_arg0) r) := fun r => (in_range m h c r).1
  have hb : ∀ r l, mag (rowOf (n := 16384) (argOf m c main_arg0) r l) < 10 ^ 10 :=
    fun r l => ((in_range m h c r).2.2.2 l).trans (by norm_num)
  rw [Wn_out]
  split_ifs with ha
  · have hs := (arm_iff m ρ c hx).1 ha
    rw [W12_of m ρ c main_v14_0 (by decide), W11_of m ρ c main_v14_0 (by decide)]
    refine (W10_arr m ρ c 9).trans ((fast_array (V9 m ρ) c (by rw [prices_call]; exact hx) (by rw [prices_call]; exact hs)).trans ?_)
    exact funext fun i => wanted_args m ρ c (i 0) (i 1)
  · refine (W13_arr m ρ c 9).trans ((general_array (V12 m ρ) c (by rw [prices_call2]; exact hx) (by rw [prices_call2]; exact hb)).trans ?_)
    exact funext fun i => (same_wanted m ρ c (i 0) (i 1)).trans (wanted_args m ρ c (i 0) (i 1))

end Cert.Proof.KI
-- ==== Proof.RefWords.lean ====
module

public import proofs.«01_k».proof.Proof.FastCounts
public import proofs.«01_k».proof.Proof.Gen.ReferenceIdeal.Run

@[expose] public section

noncomputable section

namespace Cert.Proof.RI

open Cert.ReferenceIdeal Cert.ReferenceIdeal.Gen Cert.ReferenceIdeal.Value Idealize.ShloMosaic Idealize.ShloMosaic.TcCoe
open Cert.Proof.Spec Cert.Proof.Counts Cert.Proof.Floats Cert.Proof.Digits

/-- A small number's word, read as an unsigned integer. -/
theorem small_nat (m : ℕ) (hb : m < 2 ^ 31) : (BitVec.ofNat 32 m).toNat = m := by
  rw [BitVec.toNat_ofNat]; exact Nat.mod_eq_of_lt (by omega)

/-- A small number's word, read as a signed integer. -/
theorem small_int (m : ℕ) (hb : m < 2 ^ 31) : (BitVec.ofNat 32 m).toInt = m := by
  have h := small_nat m hb
  rw [BitVec.toInt_eq_toNat_of_lt (by rw [h]; omega), h]

/-- A small number, converted to a word. -/
theorem real_word (n : ℕ) (hb : n < 2 ^ 31) : FloatOps.fptosi (F := Ideal) (φ := .f32) 32 ((((n : ℤ) : ℝ)) : EReal) = BitVec.ofNat 32 n := by
  show BitVec.ofInt 32 (Ideal.toIntClamped _ _ _) = _
  rw [Ideal.toIntClamped_coe, if_pos (by positivity), Int.floor_intCast, max_eq_right, min_eq_right]
  · exact BitVec.ofInt_natCast _ _
  · norm_num <;> omega
  · norm_num <;> omega

/-- A small word's sign bit. -/
theorem small_msb (m : ℕ) (hb : m < 2 ^ 31) : (BitVec.ofNat 32 m).msb = false := by
  rw [BitVec.msb_eq_false_iff_two_mul_lt, BitVec.toNat_ofNat, Nat.mod_eq_of_lt (by omega)]; omega

/-- A positive small word is not zero. -/
theorem small_ne (m : ℕ) (h1 : 1 ≤ m) (hb : m < 2 ^ 31) : BitVec.ofNat 32 m ≠ 0#32 := by
  intro h
  have := congrArg BitVec.toNat h
  rw [BitVec.toNat_ofNat, Nat.mod_eq_of_lt (by omega)] at this
  simp at this; omega

/-- The quotient of small words. -/
theorem div_word (m t : ℕ) (h1 : 1 ≤ t) (ht : t < 2 ^ 31) (hb : m < 2 ^ 31) :
    IntOp.divsi ArithUnit.host (BitVec.ofNat 32 m) (BitVec.ofNat 32 t) = BitVec.ofNat 32 (m / t) := by
  have hc : ¬ IntOp.SDivCorner (BitVec.ofNat 32 m) (BitVec.ofNat 32 t) := by
    rintro (h | ⟨h, _⟩)
    · exact small_ne t h1 ht h
    · have := small_msb m hb; rw [h] at this; exact absurd this (by decide)
  unfold IntOp.divsi
  rw [if_neg hc, BitVec.sdiv_eq, small_msb m hb, small_msb t ht]
  apply BitVec.eq_of_toNat_eq
  show (BitVec.udiv _ _).toNat = _
  rw [BitVec.udiv_eq, BitVec.toNat_udiv, small_nat m hb, small_nat t ht, small_nat _ (by have := Nat.div_le_self m t; omega)]

/-- The remainder of small words. -/
theorem rem_word (m t : ℕ) (h1 : 1 ≤ t) (ht : t < 2 ^ 31) (hb : m < 2 ^ 31) :
    IntOp.remsi ArithUnit.host (BitVec.ofNat 32 m) (BitVec.ofNat 32 t) = BitVec.ofNat 32 (m % t) := by
  have hc : ¬ IntOp.SDivCorner (BitVec.ofNat 32 m) (BitVec.ofNat 32 t) := by
    rintro (h | ⟨h, _⟩)
    · exact small_ne t h1 ht h
    · have := small_msb m hb; rw [h] at this; exact absurd this (by decide)
  unfold IntOp.remsi
  rw [if_neg hc, BitVec.srem_eq, small_msb m hb, small_msb t ht]
  apply BitVec.eq_of_toNat_eq
  show (BitVec.umod _ _).toNat = _
  rw [BitVec.umod_eq, BitVec.toNat_umod, small_nat m hb, small_nat t ht, small_nat _ (by have := Nat.mod_le m t; omega)]

/-- The integer part of the magnitude of a finite number below two to the thirty-first, as a word. -/
theorem abs_word (x : EReal) (h : x ≠ ⊥) (h' : x ≠ ⊤) (hb : mag x < 2 ^ 31) :
    (FloatOps.fptosi (F := Ideal) (φ := .f32) 32 (FloatOps.absf (F := Ideal) (φ := .f32) x)) = BitVec.ofNat 32 (mag x) := by
  lift x to ℝ using ⟨h', h⟩
  have : FloatOps.absf (F := Ideal) (φ := .f32) (x : EReal) = ((|x| : ℝ) : EReal) := by
    show max (x : EReal) (-(x : EReal)) = _
    rw [← EReal.coe_neg, ← EReal.coe_strictMono.monotone.map_max]; rfl
  rw [this]
  show BitVec.ofInt 32 (Ideal.toIntClamped _ _ _) = _
  rw [Ideal.toIntClamped_coe, if_pos (abs_nonneg x)]
  have hm : ⌊|x|⌋ = ((mag (x : EReal) : ℕ) : ℤ) := by
    unfold mag; rw [EReal.toReal_coe, Int.natCast_floor_eq_floor (abs_nonneg x)]
  rw [hm]
  generalize mag (x : EReal) = n at hb
  rw [max_eq_right, min_eq_right]
  · exact BitVec.ofInt_natCast _ _
  · norm_num <;> omega
  · norm_num <;> omega

/-- The decimal logarithm's integer part of a positive number below two to the thirty-first, as a word. -/
theorem log_word (m : ℕ) (h1 : 1 ≤ m) (hb : m < 2 ^ 31) :
    FloatOps.fptosi (F := Ideal) (φ := .f32) 32 (Ideal.liftRound Int.floor (Ideal.div
      (Ideal.log (FloatOps.sitofp (F := Ideal) .f32 (BitVec.ofNat 32 m))) (Ideal.log (Ideal.ofBits .f32 1092616192#32)))) = BitVec.ofNat 32 (Nat.log 10 m) := by
  have e : FloatOps.sitofp (F := Ideal) .f32 (BitVec.ofNat 32 m) = ((m : ℝ) : EReal) := by
    show (((BitVec.ofNat 32 m).toInt : ℝ) : EReal) = _
    rw [small_int m hb]; rfl
  have hl : 0 < Real.log 10 := Real.log_pos (by norm_num)
  have hd : Nat.log 10 m ≤ 9 := by
    have := Nat.log_lt_of_lt_pow (b := 10) (x := 10) (y := m) (by omega) (by omega); omega
  have hm : (0 : ℝ) < m := by exact_mod_cast h1
  rw [e, f10, Ideal.log_coe, Ideal.log_coe, if_neg (not_le.2 hm), if_neg (by norm_num), Ideal.div_coe hl.ne', ← EReal.coe_mul,
    Ideal.liftRound_coe, mul_one_div, floor_log m h1]
  exact real_word _ (by omega)

/-- A row of prices. -/
abbrev prices (V : Valuation τ sig (Elt Ideal)) (r : Fin 16384) : Row := fun l => V (Proc.devRef .tc main_arg0) (ix2 r l)

/-- A row of volumes. -/
abbrev volumes (V : Valuation τ sig (Elt Ideal)) (r : Fin 16384) : Row := fun l => V (Proc.devRef .tc main_arg1) (ix2 r l)

/-- A row of holding times. -/
abbrev holding (V : Valuation τ sig (Elt Ideal)) (r : Fin 16384) : Row := fun l => V (Proc.devRef .tc main_arg2) (ix2 r l)

variable (V : Valuation τ sig (Elt Ideal)) (r : Fin 16384) (l : Fin 200)

/-- Ten to a power from zero to nine, by repeated squaring on words. -/
theorem power_word (d : ℕ) (hd : d ≤ 9) (h : res_main_v11 V (ix2 r l) = BitVec.ofNat 32 d) : res_main_v62 V (ix2 r l) = BitVec.ofNat 32 (10 ^ d) := by
  pointwise [res_main_v62, res_main_v54, res_main_v55, res_main_v57, res_main_v46, res_main_v38, res_main_v39, res_main_v41,res_main_v47, res_main_v49,res_main_v31, res_main_v33, res_main_v30, res_main_v23, res_main_v25, res_main_v22, res_main_v17]
  simp only [h]
  clear h
  interval_cases d <;> decide

/-- The larger of a small word and one, by a test for zero. -/
theorem pos_word (n : ℕ) (hb : n < 2 ^ 31) :
    Scalar.select (IntOp.cmpi .eq (BitVec.ofNat 32 n) 0#32) 1#32 (BitVec.ofNat 32 n) = BitVec.ofNat 32 (max n 1) := by
  rcases Nat.eq_zero_or_pos n with rfl | h
  · decide
  · rw [max_eq_left h]
    unfold Scalar.select
    refine if_neg fun hc => small_ne n h hb ?_
    by_contra hn
    have e : IntOp.cmpi CmpIPredicate.eq (BitVec.ofNat 32 n) 0#32 = 0#1 := by
      show BitVec.ofBool (BitVec.ofNat 32 n == 0#32) = 0#1
      rw [beq_eq_false_iff_ne.2 hn]; rfl
    rw [e] at hc; exact absurd hc (by decide)

/-- The price's integer part, as the reference has it. -/
theorem mag_word (hx : KI.Finite (prices V r)) (hb : mag (prices V r l) < 2 ^ 31) :
    res_main_v1 V (ix2 r l) = BitVec.ofNat 32 (mag (prices V r l)) := by
  pointwise [res_main_v1]
  exact abs_word _ (hx l).1 (hx l).2 hb

/-- The same, one for zero. -/
theorem one_word (n : ℕ) (hb : n < 2 ^ 31) (h : res_main_v1 V (ix2 r l) = BitVec.ofNat 32 n) : res_main_v4 V (ix2 r l) = BitVec.ofNat 32 (max n 1) := by
  pointwise [res_main_v4]
  rw [h]
  exact pos_word n hb

/-- Its decimal logarithm's integer part. -/
theorem exp_word (n : ℕ) (hb : n < 2 ^ 31) (h : res_main_v1 V (ix2 r l) = BitVec.ofNat 32 n) : res_main_v11 V (ix2 r l) = BitVec.ofNat 32 (Nat.log 10 (max n 1)) := by
  pointwise [res_main_v11]
  rw [one_word V r l n hb h]
  exact log_word _ (by omega) (by omega)

/-- The largest power of ten in it. -/
theorem ten_word (n : ℕ) (hb : n < 2 ^ 31) (h : res_main_v1 V (ix2 r l) = BitVec.ofNat 32 n) : res_main_v62 V (ix2 r l) = BitVec.ofNat 32 (10 ^ Nat.log 10 (max n 1)) := by
  have hd : Nat.log 10 (max n 1) ≤ 9 := by
    have := Nat.log_lt_of_lt_pow (b := 10) (x := 10) (y := max n 1) (by omega) (by omega); omega
  exact power_word V r l _ hd (exp_word V r l n hb h)

/-- The leading digit. -/
theorem lead_word (n : ℕ) (hb : n < 2 ^ 31) (h : res_main_v1 V (ix2 r l) = BitVec.ofNat 32 n) : res_main_call8_v0 V (ix2 r l) = BitVec.ofNat 32 (lead n) := by
  have hp : 10 ^ Nat.log 10 (max n 1) ≤ max n 1 := Nat.pow_log_le_self 10 (by omega)
  pointwise [res_main_call8_v0]
  rw [one_word V r l n hb h, ten_word V r l n hb h]
  exact div_word _ _ (Nat.one_le_pow _ _ (by norm_num)) (by omega) (by omega)

/-- The last digit. -/
theorem last_word (hx : KI.Finite (prices V r)) (hb : mag (prices V r l) < 2 ^ 31) :
    res_main_call11_v4 V (ix2 r l) = BitVec.ofNat 32 (mag (prices V r l) % 10) := by
  pointwise [res_main_call11_v4,res_main_call11_v2,res_main_call11_v0]
  rw [abs_word _ (hx l).1 (hx l).2 hb]
  exact rem_word _ 10 (by norm_num) (by norm_num) hb

/-- The test of the leading digit, after the correction of a quotient's sign. -/
theorem lead_flag (n : ℕ) (hb : n < 2 ^ 31) (a t q : BitVec 32) (ha : a = BitVec.ofNat 32 (max n 1)) (ht : t = BitVec.ofNat 32 (10 ^ Nat.log 10 (max n 1)))
    (hq : q = BitVec.ofNat 32 (lead n)) (x : Fin 9) :
    FloatOps.uitofp (F := Ideal) .f32 (IntOp.cmpi CmpIPredicate.eq
                        (IntOp.subi
                          (IntOp.minsi (id (constantI S_ 32 9#32) ix0)
                            (IntOp.maxsi (id (constantI S_ 32 1#32) ix0)
                              (Scalar.select
                                (IntOp.andi
                                  (IntOp.cmpi CmpIPredicate.ne
                                    (if a = 0 then (0 : BitVec 32)
                                    else if BitVec.msb a = true then -1 else 1)
                                    (if t = 0 then (0 : BitVec 32)
                                    else if BitVec.msb t = true then -1 else 1))
                                  (IntOp.cmpi CmpIPredicate.ne
                                    (IntOp.remsi ArithUnit.host a
                                      t)
                                    0#32))
                                (IntOp.subi q 1#32) q)))
                          1#32)
                        (BitVec.ofNat 32 x.1)) = if lead n = x.1 + 1 then (1 : EReal) else 0 := by
  have hp : 10 ^ Nat.log 10 (max n 1) ≤ max n 1 := Nat.pow_log_le_self 10 (by omega)
  have hp1 : 1 ≤ 10 ^ Nat.log 10 (max n 1) := Nat.one_le_pow _ _ (by norm_num)
  subst ha ht hq
  rw [if_neg (show ¬ BitVec.ofNat 32 _ = 0 from small_ne _ (by omega) (by omega)), if_neg (by rw [small_msb _ (by omega)]; decide),
    if_neg (show ¬ BitVec.ofNat 32 _ = 0 from small_ne _ (by omega) (by omega)), if_neg (by rw [small_msb _ (by omega)]; decide)]
  have e : ∀ c : BitVec 1, IntOp.andi (IntOp.cmpi CmpIPredicate.ne (1 : BitVec 32) 1) c = 0#1 := by decide
  rw [e]
  have hq := lead_range n
  generalize lead n = q at hq
  obtain ⟨q1, q2⟩ := hq
  have key : (IntOp.cmpi CmpIPredicate.eq (IntOp.subi (IntOp.minsi (9#32) (IntOp.maxsi (1#32)
      (Scalar.select (0#1) (IntOp.subi (BitVec.ofNat 32 q) 1#32) (BitVec.ofNat 32 q)))) 1#32) (BitVec.ofNat 32 x.1)) = if q = x.1 + 1 then 1#1 else 0#1 := by
    revert x; interval_cases q <;> decide
  refine (congrArg (FloatOps.uitofp (F := Ideal) .f32) key).trans ?_
  show (((BitVec.toNat (if q = x.1 + 1 then 1#1 else 0#1) : ℕ) : ℝ) : EReal) = _
  split_ifs <;> simp

/-- The test of the last digit, after the correction of a remainder's sign. -/
theorem last_flag (w : BitVec 32) (n : ℕ) (hw : w = BitVec.ofNat 32 (n % 10)) (x : Fin 10) :
                  FloatOps.uitofp (F := Ideal) .f32
                    (IntOp.cmpi CmpIPredicate.eq
                      (Scalar.select
                        (IntOp.andi
                          (IntOp.cmpi CmpIPredicate.ne
                            (IntOp.cmpi CmpIPredicate.slt w 0#32)
                            (IntOp.cmpi CmpIPredicate.slt (res_main_call11_v2 V ix0) 0#32))
                          (IntOp.cmpi CmpIPredicate.ne w 0#32))
                        (IntOp.addi w (res_main_call11_v2 V ix0))
                        w)
                      (BitVec.ofNat 32 x.1)) = if n % 10 = x.1 then (1 : EReal) else 0 := by
  have e : res_main_call11_v2 V ix0 = 10#32 := by pointwise [res_main_call11_v2,res_main_call11_v0]; decide
  have hq : n % 10 < 10 := Nat.mod_lt _ (by norm_num)
  rw [e, hw]
  clear hw
  generalize n % 10 = q at hq
  have key : (IntOp.cmpi CmpIPredicate.eq (Scalar.select
                        (IntOp.andi
                          (IntOp.cmpi CmpIPredicate.ne
                            (IntOp.cmpi CmpIPredicate.slt (BitVec.ofNat 32 q) 0#32)
                            (IntOp.cmpi CmpIPredicate.slt 10#32 0#32))
                          (IntOp.cmpi CmpIPredicate.ne (BitVec.ofNat 32 q) 0#32))
                        (IntOp.addi (BitVec.ofNat 32 q) 10#32)
                        (BitVec.ofNat 32 q))
                      (BitVec.ofNat 32 x.1)) = if q = x.1 then 1#1 else 0#1 := by
    revert x; interval_cases q <;> decide
  refine (congrArg (FloatOps.uitofp (F := Ideal) .f32) key).trans ?_
  show (((BitVec.toNat (if q = x.1 then 1#1 else 0#1) : ℕ) : ℝ) : EReal) = _
  split_ifs <;> simp

end Cert.Proof.RI
-- ==== Proof.RefEntry.lean ====
module

public import proofs.«01_k».proof.Proof.RefWords

@[expose] public section

noncomputable section

namespace Cert.Proof.RI

open Cert.ReferenceIdeal Cert.ReferenceIdeal.Gen Cert.ReferenceIdeal.Value Idealize.ShloMosaic Idealize.ShloMosaic.TcCoe
open Cert.Proof.Spec Cert.Proof.Counts Cert.Proof.Floats Cert.Proof.Digits

/-- The sum of the squared distances from the mean, for a row of finite numbers. -/
theorem squares (x : Row) (h : KI.Finite x) :
    0 ≤ (∑ l, x l * x l) - (∑ l, x l) * mean x ∧
    ∑ l, (x l - mean x) * (x l - mean x) = (∑ l, x l * x l) - (∑ l, x l) * mean x := by
  have hf : ∃ f : Fin 200 → ℝ, x = fun l => ((f l : ℝ) : EReal) :=
    ⟨fun l => (x l).toReal, funext fun l => (EReal.coe_toReal (h l).2 (h l).1).symm⟩
  obtain ⟨f, rfl⟩ := hf
  unfold mean
  simp only [coe_sum, ← EReal.coe_mul, ← EReal.coe_sub]
  have key : ∑ l, (f l - (∑ l, f l) * (1 / 200)) * (f l - (∑ l, f l) * (1 / 200)) = (∑ l, f l * f l) - (∑ l, f l) * ((∑ l, f l) * (1 / 200)) := by
    generalize hs : ∑ l, f l = s
    have : ∀ l, (f l - s * (1 / 200)) * (f l - s * (1 / 200)) = f l * f l - 2 * (s * (1 / 200)) * f l + (s * (1 / 200)) * (s * (1 / 200)) := fun l => by ring
    simp only [this]
    rw [Finset.sum_add_distrib, Finset.sum_sub_distrib, ← Finset.mul_sum, hs]
    simp
    ring
  refine ⟨?_, by rw [key]⟩
  rw [← key]
  exact_mod_cast Finset.sum_nonneg fun l _ => mul_self_nonneg _

/-- The unbiased standard deviation as the reference has it. -/
theorem spread_ref (x : Row) (h : KI.Finite x) (d : Row) (w z : EReal) (hd : d = fun l => x l - mean x) (hw : w = ((199 : ℝ) : EReal)) :
    Ideal.sqrt (if 0 < w then Ideal.div (∑ l, d l * d l) w else z) = spread x := by
  subst hd hw
  rw [if_pos (by norm_num [EReal.coe_pos]), Ideal.div_coe (by norm_num), (squares x h).2]
  unfold spread
  rw [max_eq_left (squares x h).1]

/-- The distances of the holding times from their mean, as the reference has them. -/
abbrev dist13 (V : Valuation τ sig (Elt Ideal)) (r : Fin 16384) : Row := fun l => res_main_call13_call0_v5 V (ix2 r l)

/-- The distances of the volumes from their mean, as the reference has them. -/
abbrev dist14 (V : Valuation τ sig (Elt Ideal)) (r : Fin 16384) : Row := fun l => res_main_call14_call0_v5 V (ix2 r l)

/-- The leading digits one to nine, as the reference has them. -/
abbrev digit (V : Valuation τ sig (Elt Ideal)) (k : Fin 9) : EReal := res_main_v76 V (ix1 k)

variable (V : Valuation τ sig (Elt Ideal)) (r : Fin 16384) (l : Fin 200)

/-- The least entry of a row, as a fold over the row's indices. -/
theorem low_row : (Finset.univ.filter fun i => reducesTo_S16384x200_S16384_d1.drop i = ix1 r).fold min (Ideal.ofBits FTy.f32 2139095040#32)
    (V (Proc.devRef .tc main_arg2)) = low (holding V r) := by
  rw [Shape.ReducesTo.fold_fiber_r2_a1, fTop]
  rfl

/-- The greatest entry of a row, as a fold over the row's indices. -/
theorem high_row : (Finset.univ.filter fun i => reducesTo_S16384x200_S16384_d1.drop i = ix1 r).fold max (Ideal.ofBits FTy.f32 4286578688#32)
    (V (Proc.devRef .tc main_arg2)) = high (holding V r) := by
  rw [Shape.ReducesTo.fold_fiber_r2_a1, fBot]
  rfl

/-- The quotient by the row's length. -/
theorem over_length (x : EReal) : Ideal.div x (Ideal.ofBits FTy.f32 1128792064#32) = x * ((1 / 200 : ℝ) : EReal) := by
  rw [f200, Ideal.div_coe (by norm_num)]

/-- The row's length less one. -/
theorem length_pred : Ideal.ofBits FTy.f32 1128792064#32 - FloatOps.sitofp (F := Ideal) FTy.f32 1#32 = ((199 : ℝ) : EReal) := by
  have : FloatOps.sitofp (F := Ideal) FTy.f32 1#32 = ((1 : ℝ) : EReal) := by
    show (((BitVec.toInt 1#32 : ℤ) : ℝ) : EReal) = _
    rw [show BitVec.toInt 1#32 = 1 from by decide]; simp
  rw [f200, this, ← EReal.coe_sub]; norm_num

/-- The deviation of the holding times. -/
theorem spread_holding (hh : KI.Finite (holding V r)) (z : EReal) :
    Ideal.sqrt (if (0 : EReal) < res_main_call13_call0_v8 V ix0 then
      Ideal.div (∑ x, dist13 V r x * dist13 V r x) (res_main_call13_call0_v8 V ix0) else z) = spread (holding V r) := by
  refine spread_ref (holding V r) hh (dist13 V r) _ z (funext fun l => ?_) ?_
  · show res_main_call13_call0_v5 V (ix2 r l) = _
    pointwise [res_main_call13_call0_v5]
    rw [over_length]; rfl
  · pointwise [res_main_call13_call0_v8]
    exact length_pred

/-- The deviation of the volumes. -/
theorem spread_volumes (hv : KI.Finite (volumes V r)) (z : EReal) :
    Ideal.sqrt (if (0 : EReal) < res_main_call14_call0_v8 V ix0 then
      Ideal.div (∑ x, dist14 V r x * dist14 V r x) (res_main_call14_call0_v8 V ix0) else z) = spread (volumes V r) := by
  refine spread_ref (volumes V r) hv (dist14 V r) _ z (funext fun l => ?_) ?_
  · show res_main_call14_call0_v5 V (ix2 r l) = _
    pointwise [res_main_call14_call0_v5]
    rw [over_length]; rfl
  · pointwise [res_main_call14_call0_v8]
    exact length_pred

/-- The expected share of a leading digit. -/
theorem share_ref (k : Fin 9) : Ideal.div (Ideal.log (Ideal.div (digit V k + 1) (digit V k))) (Ideal.log (Ideal.ofBits FTy.f32 1092616192#32)) = share (k.1 + 1) := by
  have e : digit V k = (((k.1 + 1 : ℕ) : ℝ) : EReal) := by
    show res_main_v76 V (ix1 k) = _
    pointwise [res_main_v76]
    have : FloatOps.sitofp (F := Ideal) FTy.f32 (BitVec.ofNat 32 k.1) = ((k.1 : ℝ) : EReal) := by
      show (((BitVec.ofNat 32 k.1).toInt : ℝ) : EReal) = _
      rw [small_int k.1 (by omega)]; rfl
    rw [this]
    rw [Nat.cast_add, EReal.coe_add, add_comm, Nat.cast_one]; rfl
  have hl : 0 < Real.log 10 := Real.log_pos (by norm_num)
  have hk : (0 : ℝ) < ((k.1 + 1 : ℕ) : ℝ) := by positivity
  have hq : (0 : ℝ) < (((k.1 + 1 : ℕ) : ℝ) + 1) * (1 / ((k.1 + 1 : ℕ) : ℝ)) := by positivity
  rw [e, Ideal.div_coe hk.ne', f10, Ideal.log_coe, if_neg (by norm_num)]
  rw [show ((((k.1 + 1 : ℕ) : ℝ) : EReal) + 1) = ((((k.1 + 1 : ℕ) : ℝ) + 1 : ℝ) : EReal) from by rw [EReal.coe_add]; rfl]
  rw [← EReal.coe_mul, Ideal.log_coe, if_neg (not_le.2 hq), Ideal.div_coe hl.ne', ← EReal.coe_mul]
  unfold share
  simp only [div_eq_mul_inv, one_mul]

/-- The result of the reference, an entry at a time. -/
theorem result_entry (hp : KI.Finite (prices V r)) (hv : KI.Finite (volumes V r)) (hh : KI.Finite (holding V r)) (hb : ∀ l, mag (prices V r l) < 2 ^ 31)
    (j : Fin 32) : res_main_v137 V (ix2 r j) = entry (prices V r) (volumes V r) (holding V r) (V (Proc.devRef .tc main_arg3) (ix1 r))
      (V (Proc.devRef .tc main_arg4) (ix1 r)) (V (Proc.devRef .tc main_arg5) (ix1 r)) (fun k i => V (Proc.devRef .tc main_arg6) (ix2 i k))
      (fun k i => V (Proc.devRef .tc main_arg8) (ix2 i k)) (fun k i => V (Proc.devRef .tc main_arg10) (ix2 i k))
      (fun k i => V (Proc.devRef .tc main_arg12) (ix2 i k))
      (if h1 : j.1 < 8 then V (Proc.devRef .tc main_arg7) (ix1 ⟨j.1, h1⟩)
        else if h2 : j.1 - 8 < 8 then V (Proc.devRef .tc main_arg9) (ix1 ⟨j.1 - 8, h2⟩)
        else if h3 : j.1 - 8 - 8 < 8 then V (Proc.devRef .tc main_arg11) (ix1 ⟨j.1 - 8 - 8, h3⟩)
        else V (Proc.devRef .tc main_arg13) (ix1 ⟨j.1 - 8 - 8 - 8, by omega⟩)) j := by
  pointwise [res_main_v137]
  unfold entry
  by_cases h1 : j.1 < 8
  · simp only [dif_pos h1]
    refine congrArg (· + _) (Finset.sum_congr rfl fun k _ => congrArg (· * _) ?_)
    rw [share_ref, over_length]
    have e : (∑ x : Fin 200, _ : EReal) = ((tally (fun n => lead n = k.1 + 1) (prices V r) : ℝ) : EReal) :=
      sum_indicator_ideal (fun n => lead n = k.1 + 1) (prices V r) _ fun l =>
        have w := mag_word V r l hp (hb l)
        lead_flag (mag (prices V r l)) (hb l) _ _ _ (one_word V r l _ (hb l) w) (ten_word V r l _ (hb l) w) (lead_word V r l _ (hb l) w) k
    unfold ben freq
    exact congrArg (fun s : EReal => max (s * ((1 / 200 : ℝ) : EReal) - share (k.1 + 1)) (-(s * ((1 / 200 : ℝ) : EReal) - share (k.1 + 1)))) e
  · simp only [dif_neg h1]
    by_cases h2 : j.1 - 8 < 8
    · simp only [dif_pos h2]
      refine congrArg (· + _) (Finset.sum_congr rfl fun k _ => congrArg (· * _) ?_)
      rw [over_length]
      have e : (∑ x : Fin 200, _ : EReal) = ((tally (fun n => n % 10 = k.1) (prices V r) : ℝ) : EReal) :=
        sum_indicator_ideal (fun n => n % 10 = k.1) (prices V r) _ fun l => last_flag V _ _ (last_word V r l hp (hb l)) k
      unfold rnd freq
      exact congrArg (fun s : EReal => s * ((1 / 200 : ℝ) : EReal)) e
    · simp only [dif_neg h2]
      by_cases h3 : j.1 - 8 - 8 < 8
      · simp only [dif_pos h3]
        refine congrArg (· + _) (Finset.sum_congr rfl fun k _ => congrArg (· * _) ?_)
        fin_cases k
        · exact over_length _
        · exact low_row V r
        · exact high_row V r
        · exact spread_holding V r hh _
      · simp only [dif_neg h3]
        refine congrArg (· + _) (Finset.sum_congr rfl fun k _ => congrArg (· * _) ?_)
        fin_cases k
        · rfl
        · rfl
        · rfl
        · exact over_length _
        · exact spread_volumes V r hv _
        · rfl
end Cert.Proof.RI
-- ==== Proof.Algebraic.lean ====
module

public import proofs.«01_k».proof.Defs
public import proofs.«01_k».proof.Proof.Result
public import proofs.«01_k».proof.Proof.RefEntry

@[expose] public section

noncomputable section

namespace Cert.Proof

open Idealize.ShloMosaic Idealize.SL.Sem

/-- From inputs in range, equal on both sides, the kernel and its reference end with equal results. -/
theorem algebraic : Cert.algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hpre hargs
  refine ⟨fun c i => KI.fromArgs m c (i 0) (i 1), ?_, ?_⟩
  · refine (θ_run Cert.KernelIdeal.defs _ _).mono (fun r hr c => ?_) (KI.run (F := Ideal) m g)
    exact ⟨(hr.1 c _ (KI.mem_uc Cert.KernelIdeal.main_v18 (by decide))).trans (KI.result m g c hpre),
      KI.arg_end m g hr.1 c Cert.KernelIdeal.main_arg0 (by decide) (by decide), KI.arg_end m g hr.1 c Cert.KernelIdeal.main_arg1 (by decide) (by decide), KI.arg_end m g hr.1 c Cert.KernelIdeal.main_arg2 (by decide) (by decide), KI.arg_end m g hr.1 c Cert.KernelIdeal.main_arg3 (by decide) (by decide), KI.arg_end m g hr.1 c Cert.KernelIdeal.main_arg4 (by decide) (by decide), KI.arg_end m g hr.1 c Cert.KernelIdeal.main_arg5 (by decide) (by decide), KI.arg_end m g hr.1 c Cert.KernelIdeal.main_arg6 (by decide) (by decide),
      KI.arg_end m g hr.1 c Cert.KernelIdeal.main_arg7 (by decide) (by decide), KI.arg_end m g hr.1 c Cert.KernelIdeal.main_arg8 (by decide) (by decide), KI.arg_end m g hr.1 c Cert.KernelIdeal.main_arg9 (by decide) (by decide), KI.arg_end m g hr.1 c Cert.KernelIdeal.main_arg10 (by decide) (by decide), KI.arg_end m g hr.1 c Cert.KernelIdeal.main_arg11 (by decide) (by decide), KI.arg_end m g hr.1 c Cert.KernelIdeal.main_arg12 (by decide) (by decide), KI.arg_end m g hr.1 c Cert.KernelIdeal.main_arg13 (by decide) (by decide)⟩
  · refine (θ_run Cert.ReferenceIdeal.defs _ _).mono (fun r hr c => ⟨(hr c).1.trans ?_, (hr c).2⟩) (Cert.ReferenceIdeal.Value.run (F := Ideal) m' g')
    obtain ⟨a0, a1, a2, a3, a4, a5, a6, a7, a8, a9, a10, a11, a12, a13⟩ := hargs c
    funext i
    obtain ⟨hp, hv, hh, hb⟩ := KI.in_range m hpre c (i 0)
    have e0 : RI.prices (StableHlo.launchContents m' c) (i 0) = KI.rowOf (n := 16384) (KI.argOf m c Cert.KernelIdeal.main_arg0) (i 0) :=
      congrArg (fun x => KI.rowOf (n := 16384) x (i 0)) a0
    have e1 : RI.volumes (StableHlo.launchContents m' c) (i 0) = KI.rowOf (n := 16384) (KI.argOf m c Cert.KernelIdeal.main_arg1) (i 0) :=
      congrArg (fun x => KI.rowOf (n := 16384) x (i 0)) a1
    have e2 : RI.holding (StableHlo.launchContents m' c) (i 0) = KI.rowOf (n := 16384) (KI.argOf m c Cert.KernelIdeal.main_arg2) (i 0) :=
      congrArg (fun x => KI.rowOf (n := 16384) x (i 0)) a2
    refine (congrArg (Cert.ReferenceIdeal.Value.res_main_v137 (StableHlo.launchContents m' c)) (eq_ix2 i)).trans ?_
    refine (RI.result_entry (StableHlo.launchContents m' c) (i 0) (by rw [e0]; exact hp) (by rw [e1]; exact hv) (by rw [e2]; exact hh)
      (by rw [e0]; exact hb) (i 1)).trans ?_
    refine Spec.entry_congr e0 e1 e2 (congrFun a3 _) (congrFun a4 _) (congrFun a5 _) (funext fun k => funext fun l => congrFun a6 _)
      (funext fun k => funext fun l => congrFun a8 _) (funext fun k => funext fun l => congrFun a10 _)
      (funext fun k => funext fun l => congrFun a12 _) ?_ rfl
    unfold KI.biasOf
    split_ifs
    · exact congrFun a7 _
    · exact congrFun a9 _
    · exact congrFun a11 _
    · exact congrFun a13 _

end Cert.Proof
-- ==== Proof.Frames.lean ====
module

public import proofs.«01_k».proof.Defs
public import proofs.«01_k».proof.Proof.Kernel.Run
public import proofs.«01_k».proof.Proof.KernelIdeal.Run
public import proofs.«01_k».proof.Proof.Gen.ReferenceIdeal.Run
public import proofs.«01_k».proof.Proof.Gen.Pre_in_range
public import Idealize.ShloMosaic.Lib.Quiescent

@[expose] public section

noncomputable section

namespace Cert.Proof

open Idealize.ShloMosaic Idealize.SL.Sem

/-- The kernel, on words, ends with its arguments unchanged and its counters at zero. -/
theorem frame_kernel : Cert.quiescent_Kernel (hKernel := Cert.Kernel.Gen.facts) :=
  fun m ρ _ => K.frame m ρ

/-- The kernel on extended reals does too. -/
theorem frame_ideal : Cert.quiescent_KernelIdeal (hKernelIdeal := Cert.KernelIdeal.Gen.facts) :=
  fun m ρ _ => KI.frame m ρ

/-- The same from inputs in range. -/
theorem frame_ideal_pre : Cert.quiescent_KernelIdeal_pre_in_range (hKernelIdeal := Cert.KernelIdeal.Gen.facts) (hPre_in_range := Cert.Pre_in_range.Gen.facts) :=
  fun m ρ _ => KI.frame m ρ

/-- The reference on extended reals ends with its arguments unchanged and its counters at zero. -/
theorem frame_reference : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩)
    (Cert.ReferenceIdeal.Value.run (F := Ideal) m ρ)

/-- The same from inputs in range. -/
theorem frame_reference_pre : Cert.quiescent_ReferenceIdeal_pre_in_range (hReferenceIdeal := Cert.ReferenceIdeal.Gen.facts) (hPre_in_range := Cert.Pre_in_range.Gen.facts) :=
  fun m ρ _ => frame_reference m ρ trivial

end Cert.Proof
-- ==== Proof.lean ====
/- The claims about the kernel and its reference, put together from the modules under Proof/. -/
module

public import proofs.«01_k».proof.Defs
public import proofs.«01_k».proof.Proof.Algebraic
public import proofs.«01_k».proof.Proof.Frames
public import proofs.«01_k».proof.Proof.Named

@[expose] public section

noncomputable section

namespace Cert.Proof

/-- Every claim holds. -/
theorem claim : Cert.Claim :=
  ⟨Cert.Kernel.Gen.facts, Cert.KernelIdeal.Gen.facts, Cert.ReferenceIdeal.Gen.facts, Cert.Pre_in_range.Gen.facts,
    frame_kernel, frame_ideal, frame_ideal_pre, frame_reference, frame_reference_pre, Named.preserves, algebraic⟩

end Cert.Proof

end
